-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_x_finite_KernelIdeal [hPre_x_finite_KernelIdeal : Cert.Pre_x_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_x_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_x_finite_ReferenceIdeal [hPre_x_finite_ReferenceIdeal : Cert.Pre_x_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_x_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_x_finite_KernelIdeal [hKernelIdeal : Cert.KernelIdeal.Facts] [hPre_x_finite_KernelIdeal : Cert.Pre_x_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_x_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_x_finite_ReferenceIdeal [hReferenceIdeal : Cert.ReferenceIdeal.Facts] [hPre_x_finite_ReferenceIdeal : Cert.Pre_x_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_x_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_x_finite_KernelIdeal [hKernelIdeal : Cert.KernelIdeal.Facts] [hReferenceIdeal : Cert.ReferenceIdeal.Facts] [hPre_x_finite_KernelIdeal : Cert.Pre_x_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_x_finite_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![2048, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1, 1024]⟩ ⟨2, ![1, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1, 1024]⟩ ⟨2, ![1, 4096]⟩ 1 4 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 1024]⟩ ⟨2, ![2048, 4096]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v16) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_x_finite_KernelIdeal : Cert.Pre_x_finite_KernelIdeal.Facts) (hPre_x_finite_ReferenceIdeal : Cert.Pre_x_finite_ReferenceIdeal.Facts),
    quiescent_Kernel (hKernel := hKernel)
    ∧ quiescent_KernelIdeal (hKernelIdeal := hKernelIdeal)
    ∧ quiescent_KernelIdeal_pre_x_finite_KernelIdeal (hKernelIdeal := hKernelIdeal) (hPre_x_finite_KernelIdeal := hPre_x_finite_KernelIdeal)
    ∧ quiescent_ReferenceIdeal (hReferenceIdeal := hReferenceIdeal)
    ∧ quiescent_ReferenceIdeal_pre_x_finite_ReferenceIdeal (hReferenceIdeal := hReferenceIdeal) (hPre_x_finite_ReferenceIdeal := hPre_x_finite_ReferenceIdeal)
    ∧ preserves_Kernel_KernelIdeal
    ∧ algebraic_KernelIdeal_ReferenceIdeal_pre_x_finite_KernelIdeal (hKernelIdeal := hKernelIdeal) (hReferenceIdeal := hReferenceIdeal) (hPre_x_finite_KernelIdeal := hPre_x_finite_KernelIdeal)
-- ==== Pre_x_finite_KernelIdeal.lean ====
abbrev S2048x1024 : Shape := ⟨2, ![2048, 1024]⟩
abbrev S1x1024 : Shape := ⟨2, ![1, 1024]⟩
abbrev S_ : Shape := ⟨0, ![]⟩

class Facts : Prop where
  bcast_S_S2048x1024 : S_.BroadcastsInDim S2048x1024 (![] : Fin 0 → Fin S2048x1024.rank)

variable [Facts]

def fn {F : FTy → Type} [FloatOps F] (main_arg0 : FVec F S2048x1024 .f32) (main_arg1 : FVec F S1x1024 .f32) (main_arg2 : FVec F S1x1024 .f32) : IVec S2048x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  main_v2
-- ==== Pre_x_finite_ReferenceIdeal.lean ====
abbrev S2048x4096 : Shape := ⟨2, ![2048, 4096]⟩
abbrev S1x4096 : Shape := ⟨2, ![1, 4096]⟩
abbrev S_ : Shape := ⟨0, ![]⟩

class Facts : Prop where
  bcast_S_S2048x4096 : S_.BroadcastsInDim S2048x4096 (![] : Fin 0 → Fin S2048x4096.rank)

variable [Facts]

def fn {F : FTy → Type} [FloatOps F] (main_arg0 : FVec F S2048x4096 .f32) (main_arg1 : FVec F S1x4096 .f32) (main_arg2 : FVec F S1x4096 .f32) : IVec S2048x4096 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  main_v2
-- ==== Kernel.lean ====
abbrev S2048x1024 : Shape := ⟨2, ![2048, 1024]⟩
abbrev S1x1024 : Shape := ⟨2, ![1, 1024]⟩
abbrev S4x4x2x4x128 : Shape := ⟨5, ![4, 4, 2, 4, 128]⟩
abbrev S8 : Shape := ⟨1, ![8]⟩
abbrev S2 : Shape := ⟨1, ![2]⟩
abbrev S4 : Shape := ⟨1, ![4]⟩
abbrev S4x3 : Shape := ⟨2, ![4, 3]⟩
abbrev S1 : Shape := ⟨1, ![1]⟩
abbrev S_ : Shape := ⟨0, ![]⟩
abbrev S256x1024 : Shape := ⟨2, ![256, 1024]⟩
abbrev S256x128 : Shape := ⟨2, ![256, 128]⟩
abbrev S256x2 : Shape := ⟨2, ![256, 2]⟩
abbrev S512x128 : Shape := ⟨2, ![512, 128]⟩
abbrev S512x4 : Shape := ⟨2, ![512, 4]⟩
abbrev S256 : Shape := ⟨1, ![256]⟩
abbrev S256x1 : Shape := ⟨2, ![256, 1]⟩
abbrev S2x128 : Shape := ⟨2, ![2, 128]⟩
abbrev S1x1x1x2x128 : Shape := ⟨5, ![1, 1, 1, 2, 128]⟩
abbrev S1x1 : Shape := ⟨2, ![1, 1]⟩
abbrev S1x1x2x4x128 : Shape := ⟨5, ![1, 1, 2, 4, 128]⟩
abbrev S2x4x128 : Shape := ⟨3, ![2, 4, 128]⟩
abbrev S1x1x1x4x128 : Shape := ⟨5, ![1, 1, 1, 4, 128]⟩
abbrev S4x128 : Shape := ⟨2, ![4, 128]⟩
abbrev S512 : Shape := ⟨1, ![512]⟩
abbrev S512x1 : Shape := ⟨2, ![512, 1]⟩
abbrev S512x1024 : Shape := ⟨2, ![512, 1024]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1x1024, .f32⟩
  | .hbm, ⟨3, _⟩ => ⟨S2048x1024, .bf16⟩
  | .local _ .vmem, ⟨0, _⟩ => ⟨S2048x1024, .f32⟩
  | .local _ .vmem, ⟨1, _⟩ => ⟨S1x1024, .f32⟩
  | .local _ .vmem, ⟨2, _⟩ => ⟨S1x1024, .f32⟩
  | .local _ .vmem, ⟨3, _⟩ => ⟨S2048x1024, .bf16⟩
  | .local _ .vmem, ⟨4, _⟩ => ⟨S4x4x2x4x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_33 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_29 : BitVec 32 := 1#32
  let v40 : BitVec 32 := Scalar.addi v2 c1_i32_29
  let c4_i32_30 : BitVec 32 := 4#32
  let v41 : BitVec 32 := Scalar.remsi v40 c4_i32_30
  let c1_i32_32 : BitVec 32 := 1#32
  let v42 : BitVec 32 := Scalar.muli v41 c1_i32_32
  let v43 : BitVec 32 := Scalar.addi c0_i32_33 v42
  v43.toNat
def k0_dev2 (d0 : Dev nD) : Nat :=
  let c0_i32_38 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_34 : BitVec 32 := 2#32
  let v44 : BitVec 32 := Scalar.addi v2 c2_i32_34
  let c4_i32_35 : BitVec 32 := 4#32
  let v45 : BitVec 32 := Scalar.remsi v44 c4_i32_35
  let c1_i32_37 : BitVec 32 := 1#32
  let v46 : BitVec 32 := Scalar.muli v45 c1_i32_37
  let v47 : BitVec 32 := Scalar.addi c0_i32_38 v46
  v47.toNat
def k0_dev3 (d0 : Dev nD) : Nat :=
  let c0_i32_43 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_39 : BitVec 32 := 3#32
  let v48 : BitVec 32 := Scalar.addi v2 c3_i32_39
  let c4_i32_40 : BitVec 32 := 4#32
  let v49 : BitVec 32 := Scalar.remsi v48 c4_i32_40
  let c1_i32_42 : BitVec 32 := 1#32
  let v50 : BitVec 32 := Scalar.muli v49 c1_i32_42
  let v51 : BitVec 32 := Scalar.addi c0_i32_43 v50
  v51.toNat
def k0_dev4 (d0 : Dev nD) : Nat :=
  let c0_i32_118 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_107 : BitVec 32 := 1#32
  let v196 : BitVec 32 := Scalar.addi v2 c1_i32_107
  let c4_i32_108 : BitVec 32 := 4#32
  let v197 : BitVec 32 := Scalar.remsi v196 c4_i32_108
  let c1_i32_117 : BitVec 32 := 1#32
  let v198 : BitVec 32 := Scalar.muli v197 c1_i32_117
  let v199 : BitVec 32 := Scalar.addi c0_i32_118 v198
  v199.toNat
def k0_dev5 (d0 : Dev nD) : Nat :=
  let c0_i32_136 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_125 : BitVec 32 := 2#32
  let v208 : BitVec 32 := Scalar.addi v2 c2_i32_125
  let c4_i32_126 : BitVec 32 := 4#32
  let v209 : BitVec 32 := Scalar.remsi v208 c4_i32_126
  let c1_i32_135 : BitVec 32 := 1#32
  let v210 : BitVec 32 := Scalar.muli v209 c1_i32_135
  let v211 : BitVec 32 := Scalar.addi c0_i32_136 v210
  v211.toNat
def k0_dev6 (d0 : Dev nD) : Nat :=
  let c0_i32_154 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_143 : BitVec 32 := 3#32
  let v220 : BitVec 32 := Scalar.addi v2 c3_i32_143
  let c4_i32_144 : BitVec 32 := 4#32
  let v221 : BitVec 32 := Scalar.remsi v220 c4_i32_144
  let c1_i32_153 : BitVec 32 := 1#32
  let v222 : BitVec 32 := Scalar.muli v221 c1_i32_153
  let v223 : BitVec 32 := Scalar.addi c0_i32_154 v222
  v223.toNat
def k0_dev7 (d0 : Dev nD) : Nat :=
  let c0_i32_212 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_201 : BitVec 32 := 1#32
  let v276 : BitVec 32 := Scalar.addi v2 c1_i32_201
  let c4_i32_202 : BitVec 32 := 4#32
  let v277 : BitVec 32 := Scalar.remsi v276 c4_i32_202
  let c1_i32_211 : BitVec 32 := 1#32
  let v278 : BitVec 32 := Scalar.muli v277 c1_i32_211
  let v279 : BitVec 32 := Scalar.addi c0_i32_212 v278
  v279.toNat
def k0_dev8 (d0 : Dev nD) : Nat :=
  let c0_i32_230 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_219 : BitVec 32 := 2#32
  let v288 : BitVec 32 := Scalar.addi v2 c2_i32_219
  let c4_i32_220 : BitVec 32 := 4#32
  let v289 : BitVec 32 := Scalar.remsi v288 c4_i32_220
  let c1_i32_229 : BitVec 32 := 1#32
  let v290 : BitVec 32 := Scalar.muli v289 c1_i32_229
  let v291 : BitVec 32 := Scalar.addi c0_i32_230 v290
  v291.toNat
def k0_dev9 (d0 : Dev nD) : Nat :=
  let c0_i32_248 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_237 : BitVec 32 := 3#32
  let v300 : BitVec 32 := Scalar.addi v2 c3_i32_237
  let c4_i32_238 : BitVec 32 := 4#32
  let v301 : BitVec 32 := Scalar.remsi v300 c4_i32_238
  let c1_i32_247 : BitVec 32 := 1#32
  let v302 : BitVec 32 := Scalar.muli v301 c1_i32_247
  let v303 : BitVec 32 := Scalar.addi c0_i32_248 v302
  v303.toNat
def k0_dev10 (d0 : Dev nD) : Nat :=
  let c0_i32_306 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_295 : BitVec 32 := 1#32
  let v356 : BitVec 32 := Scalar.addi v2 c1_i32_295
  let c4_i32_296 : BitVec 32 := 4#32
  let v357 : BitVec 32 := Scalar.remsi v356 c4_i32_296
  let c1_i32_305 : BitVec 32 := 1#32
  let v358 : BitVec 32 := Scalar.muli v357 c1_i32_305
  let v359 : BitVec 32 := Scalar.addi c0_i32_306 v358
  v359.toNat
def k0_dev11 (d0 : Dev nD) : Nat :=
  let c0_i32_324 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_313 : BitVec 32 := 2#32
  let v368 : BitVec 32 := Scalar.addi v2 c2_i32_313
  let c4_i32_314 : BitVec 32 := 4#32
  let v369 : BitVec 32 := Scalar.remsi v368 c4_i32_314
  let c1_i32_323 : BitVec 32 := 1#32
  let v370 : BitVec 32 := Scalar.muli v369 c1_i32_323
  let v371 : BitVec 32 := Scalar.addi c0_i32_324 v370
  v371.toNat
def k0_dev12 (d0 : Dev nD) : Nat :=
  let c0_i32_342 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_331 : BitVec 32 := 3#32
  let v380 : BitVec 32 := Scalar.addi v2 c3_i32_331
  let c4_i32_332 : BitVec 32 := 4#32
  let v381 : BitVec 32 := Scalar.remsi v380 c4_i32_332
  let c1_i32_341 : BitVec 32 := 1#32
  let v382 : BitVec 32 := Scalar.muli v381 c1_i32_341
  let v383 : BitVec 32 := Scalar.addi c0_i32_342 v382
  v383.toNat
def k0_dev13 (d0 : Dev nD) : Nat :=
  let c0_i32_399 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_388 : BitVec 32 := 1#32
  let v436 : BitVec 32 := Scalar.addi v2 c1_i32_388
  let c4_i32_389 : BitVec 32 := 4#32
  let v437 : BitVec 32 := Scalar.remsi v436 c4_i32_389
  let c1_i32_398 : BitVec 32 := 1#32
  let v438 : BitVec 32 := Scalar.muli v437 c1_i32_398
  let v439 : BitVec 32 := Scalar.addi c0_i32_399 v438
  v439.toNat
def k0_dev14 (d0 : Dev nD) : Nat :=
  let c0_i32_417 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_406 : BitVec 32 := 2#32
  let v448 : BitVec 32 := Scalar.addi v2 c2_i32_406
  let c4_i32_407 : BitVec 32 := 4#32
  let v449 : BitVec 32 := Scalar.remsi v448 c4_i32_407
  let c1_i32_416 : BitVec 32 := 1#32
  let v450 : BitVec 32 := Scalar.muli v449 c1_i32_416
  let v451 : BitVec 32 := Scalar.addi c0_i32_417 v450
  v451.toNat
def k0_dev15 (d0 : Dev nD) : Nat :=
  let c0_i32_435 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_424 : BitVec 32 := 3#32
  let v460 : BitVec 32 := Scalar.addi v2 c3_i32_424
  let c4_i32_425 : BitVec 32 := 4#32
  let v461 : BitVec 32 := Scalar.remsi v460 c4_i32_425
  let c1_i32_434 : BitVec 32 := 1#32
  let v462 : BitVec 32 := Scalar.muli v461 c1_i32_434
  let v463 : BitVec 32 := Scalar.addi c0_i32_435 v462
  v463.toNat
-- ==== ReferenceIdeal.lean ====
abbrev S2048x4096 : Shape := ⟨2, ![2048, 4096]⟩
abbrev S1x4096 : Shape := ⟨2, ![1, 4096]⟩
abbrev S_ : Shape := ⟨0, ![]⟩
abbrev S2048 : Shape := ⟨1, ![2048]⟩
abbrev S2048x1 : Shape := ⟨2, ![2048, 1]⟩

abbrev nBuf : Space → Nat
  | .hbm => 46
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S1x4096, .f32⟩
  | .hbm, ⟨2, _⟩ => ⟨S1x4096, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .i32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x4096, .f32⟩
  | .hbm, ⟨17, _⟩ => ⟨S2048x4096, .f32⟩
  | .hbm, ⟨18, _⟩ => ⟨S2048x4096, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S2048, .f32⟩
  | .hbm, ⟨24, _⟩ => ⟨S2048x1, .f32⟩
  | .hbm, ⟨25, _⟩ => ⟨S2048x1, .f32⟩
  | .hbm, ⟨26, _⟩ => ⟨S2048x1, .f32⟩
  | .hbm, ⟨27, _⟩ => ⟨S_, .f32⟩
  | .hbm, ⟨28, _⟩ => ⟨S_, .i1⟩
  | .hbm, ⟨29, _⟩ => ⟨S_, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S2048x4096, .f32⟩
  | .hbm, ⟨34, _⟩ => ⟨S2048x4096, .f32⟩
  | .hbm, ⟨35, _⟩ => ⟨S2048x4096, .f32⟩
  | .hbm, ⟨36, _⟩ => ⟨S2048x4096, .f32⟩
  | .hbm, ⟨37, _⟩ => ⟨S_, .f32⟩
  | .hbm, ⟨38, _⟩ => ⟨S2048x1, .f32⟩
  | .hbm, ⟨39, _⟩ => ⟨S2048x1, .f32⟩
  | .hbm, ⟨40, _⟩ => ⟨S2048x1, .f32⟩
  | .hbm, ⟨41, _⟩ => ⟨S2048x4096, .f32⟩
  | .hbm, ⟨42, _⟩ => ⟨S2048x4096, .f32⟩
  | .hbm, ⟨43, _⟩ => ⟨S2048x4096, .f32⟩
  | .hbm, ⟨44, _⟩ => ⟨S2048x4096, .f32⟩
  | .hbm, ⟨45, _⟩ => ⟨S2048x4096, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_cst : Ref sig .tc := ⟨.hbm, 10, rfl⟩
abbrev main_call0_v0 : Ref sig .tc := ⟨.hbm, 11, rfl⟩
abbrev main_call0_v1 : Ref sig .tc := ⟨.hbm, 12, rfl⟩
abbrev main_call0_cst_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_cst_1 : Ref sig .tc := ⟨.hbm, 20, rfl⟩
abbrev main_call0_v8 : Ref sig .tc := ⟨.hbm, 21, rfl⟩
abbrev main_call0_cst_2 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_cst_3 : Ref sig .tc := ⟨.hbm, 27, rfl⟩
abbrev main_call0_v13 : Ref sig .tc := ⟨.hbm, 28, rfl⟩
abbrev main_call0_cst_4 : Ref sig .tc := ⟨.hbm, 29, rfl⟩
abbrev main_call0_call0_v0 : Ref sig .tc := ⟨.hbm, 30, rfl⟩
abbrev main_call0_call0_v1 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_cst_1 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩

abbrev nD : Nat := 1
abbrev τ : Topo := Topo.v7x

variable {F : FTy → Type} [FloatOps F]
-- ==== Proof.Proto.lean ====
/-
The protocol of the column normalisation on four devices: who holds which part of which buffer, who signals and copies
onto which semaphore, and what each landing hands over. `F` is any family of float values.

Every device cuts its block of `x` (2048 rows) into eight chunks of 256 rows, and its communication buffer
`[phase, from, statistic, row group, lane]` holds at `from = 0` its own partial sums of the phase and at `from = k` those of the
device `k` places before it. A device's barrier cell takes one unit from each peer, and with the unit that peer's four landing slots of
this device; a receive cell takes a landed slot with the contents `commC`; a send cell gives the lent share of the source back.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.ValueIdxCore
public import Idealize.ShloMosaic.Lib.Tactic

@[expose] public section

noncomputable section

namespace Cert.NormProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy, the protocol's (duties `Fin 3`), the local transfers' counters -/

abbrev UB : Type := URounds (GSem nD τ sig) (Fin 3)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) := (Emb.inl : Emb UB (UB × Counters)).trans embR
abbrev EC : UEmb Counters (MT nD τ sig Unit (Elt F) ℕ UU ℕ) := countersEmb (U := UU)

instance ER_landsIn : (ER (F := F)).LandsIn (upEmb : UEmb _ 𝕄) := by unfold ER embR; infer_instance

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The devices: peers and sources -/

set_option backward.proofsInPublic true in
/-- The device `j + 1` places after `c`. -/
def peer (c : Dev nD) (j : Fin 3) : Dev nD := ⟨(c.val + j.val + 1) % 4, Nat.mod_lt _ (by decide)⟩
set_option backward.proofsInPublic true in
/-- The device `k` places before `c`. -/
def back (c : Dev nD) (k : Fin 4) : Dev nD := ⟨(c.val + 4 - k.val) % 4, Nat.mod_lt _ (by decide)⟩

theorem peer_rev (c : Dev nD) (j : Fin 3) : peer (peer c j) j.rev = c := by revert c j; decide
theorem peer_rev' (c : Dev nD) (j : Fin 3) : peer (peer c j.rev) j = c := by revert c j; decide
theorem back_peer (c : Dev nD) (j : Fin 3) : back (peer c j) j.succ = c := by revert c j; decide
theorem back_zero (c : Dev nD) : back c 0 = c := by revert c; decide
theorem peer_ne (c : Dev nD) (j : Fin 3) : peer c j ≠ c := by revert c j; decide

/-! ## The cells -/

abbrev barS : Sem sig := (SemArray.scalar (sig.barrier 0 rfl) : Sems sig S_).sem

set_option backward.proofsInPublic true in
def inS (q : Fin 8) : DmaSem sig := ⟨q.val, by show _ < 38; omega⟩
set_option backward.proofsInPublic true in
def gbS (q : Fin 2) : DmaSem sig := ⟨8 + q.val, by show _ < 38; omega⟩
set_option backward.proofsInPublic true in
def outS (p : Fin 4) : DmaSem sig := ⟨10 + p.val, by show _ < 38; omega⟩
set_option backward.proofsInPublic true in
def sendS (p : Fin 4) (j : Fin 3) : DmaSem sig := ⟨14 + 3 * p.val + j.val, by show _ < 38; omega⟩
set_option backward.proofsInPublic true in
def recvS (p : Fin 4) (j : Fin 3) : DmaSem sig := ⟨26 + 3 * p.val + j.val, by show _ < 38; omega⟩

abbrev barCell (c : Dev nD) : GSem nD τ sig := ((c : Thread nD τ), .reg barS)
abbrev sendCell (c : Dev nD) (p : Fin 4) (j : Fin 3) : GSem nD τ sig := ((c : Thread nD τ), .dma (sendS p j))
abbrev recvCell (c : Dev nD) (p : Fin 4) (j : Fin 3) : GSem nD τ sig := ((c : Thread nD τ), .dma (recvS p j))

/-- What a semaphore is to the protocol: nothing, the barrier, a send cell, a receive cell. -/
inductive Role where
  | none
  | bar
  | send (p : Fin 4) (j : Fin 3)
  | recv (p : Fin 4) (j : Fin 3)
  deriving DecidableEq

set_option backward.proofsInPublic true in
def role : SemLoc sig → Role
  | .reg _ => .bar
  | .dma s => if h : s.val < 14 then .none
      else if h' : s.val < 26 then .send ⟨(s.val - 14) / 3, by omega⟩ ⟨(s.val - 14) % 3, by omega⟩
      else .recv ⟨(s.val - 26) / 3, by have := s.isLt; change s.val < 38 at this; omega⟩ ⟨(s.val - 26) % 3, by omega⟩

theorem role_bar : role (.reg barS) = .bar := rfl
theorem role_send (p : Fin 4) (j : Fin 3) : role (.dma (sendS p j)) = .send p j := by revert p j; decide
theorem role_recv (p : Fin 4) (j : Fin 3) : role (.dma (recvS p j)) = .recv p j := by revert p j; decide
theorem role_in (q : Fin 8) : role (.dma (inS q)) = .none := by revert q; decide
theorem role_gb (q : Fin 2) : role (.dma (gbS q)) = .none := by revert q; decide
theorem role_out (q : Fin 4) : role (.dma (outS q)) = .none := by revert q; decide

/-! ## The buffers, their parts, and the contents -/

abbrev xL (c : Dev nD) : Loc nD τ sig := (c : Thread nD τ).loc main_arg0
abbrev gL (c : Dev nD) : Loc nD τ sig := (c : Thread nD τ).loc main_arg1
abbrev bL (c : Dev nD) : Loc nD τ sig := (c : Thread nD τ).loc main_arg2
abbrev oL (c : Dev nD) : Loc nD τ sig := (c : Thread nD τ).loc main_v1
abbrev xvL (c : Dev nD) : Loc nD τ sig := (c : Thread nD τ).loc cc0_scratch0
abbrev gvL (c : Dev nD) : Loc nD τ sig := (c : Thread nD τ).loc cc0_scratch1
abbrev bvL (c : Dev nD) : Loc nD τ sig := (c : Thread nD τ).loc cc0_scratch2
abbrev ovL (c : Dev nD) : Loc nD τ sig := (c : Thread nD τ).loc cc0_scratch3
abbrev cmL (c : Dev nD) : Loc nD τ sig := (c : Thread nD τ).loc cc0_scratch4

/-- Rows `[256 q, 256 (q+1))`. -/
def xR (q : Fin 8) : Finset S2048x1024.Idx := Finset.univ.filter fun i => (i 0).val / 256 = q.val
/-- Rows `[512 p, 512 (p+1))`. -/
def oR (p : Fin 4) : Finset S2048x1024.Idx := Finset.univ.filter fun i => (i 0).val / 512 = p.val
/-- The slot of phase `p`, source `k`. -/
def cR (p k : Fin 4) : Finset S4x4x2x4x128.Idx := Finset.univ.filter fun i => (i 0).val = p.val ∧ (i 1).val = k.val
/-- The own slot's half `h` of statistic `s`. -/
def sR (p : Fin 4) (s h : Fin 2) : Finset S4x4x2x4x128.Idx :=
  Finset.univ.filter fun i => (i 0).val = p.val ∧ (i 1).val = 0 ∧ (i 2).val = s.val ∧ (i 3).val / 2 = h.val

/-- The selection masks the body computes before its first load. -/
def selC : FVec F S256x2 .f32 := k0_pay5 (iota .tc S256x2 32 [1] iota_S256x2_d1_w32) k0_pay2 k0_pay3 k0_pay4
def selH : FVec F S512x4 .f32 := k0_pay10 (iota .tc S512x4 32 [1] iota_S512x4_d1_w32) k0_pay7 k0_pay8 k0_pay9

/-- A chunk's two packed statistics: row sums and row sums of squares. -/
def pack (s : Fin 2) (x : Vec F S256x1024 .f32) : FVec F S1x1x1x2x128 .f32 :=
  if s = 0 then k0_pay11 k0_pay1 selC x else k0_pay12 k0_pay1 selC x

/-- Device `c`'s block of `x`, `gamma`, `beta`. -/
def xC (c : Dev nD) : S2048x1024.Idx → F .f32 := m (xL c)
def gC (c : Dev nD) : Vec F S1x1024 .f32 := m (gL c)
def bC (c : Dev nD) : Vec F S1x1024 .f32 := m (bL c)

set_option backward.proofsInPublic true in
/-- Chunk `q` of device `c`'s block of `x`. -/
def xchunk (c : Dev nD) (q : Fin 8) : Vec F S256x1024 .f32 := fun i =>
  xC m c (ix2 ⟨256 * q.val + (i 0).val, by have := (i 0).isLt; change (i 0).val < 256 at this; omega⟩ (i 1))
set_option backward.proofsInPublic true in
/-- The 512 rows of phase `p`. -/
def xhalf (c : Dev nD) (p : Fin 4) : Vec F S512x1024 .f32 := fun i =>
  xC m c (ix2 ⟨512 * p.val + (i 0).val, by have := (i 0).isLt; change (i 0).val < 512 at this; omega⟩ (i 1))

set_option backward.proofsInPublic true in
/-- The communication buffer once everything has landed. -/
def commC (c : Dev nD) : S4x4x2x4x128.Idx → F .f32 := fun i =>
  pack (i 2) (xchunk m (back c (i 1)) ⟨2 * (i 0).val + (i 3).val / 2, by
      have := (i 0).isLt; have h := (i 3).isLt; change (i 0).val < 4 at this; change (i 3).val < 4 at h; omega⟩)
    (ix5 (0 : Fin 1) (0 : Fin 1) (0 : Fin 1) ⟨(i 3).val % 2, Nat.mod_lt _ (by decide)⟩ (i 4))

/-- What a load of statistic `s` of slot `(p, k)` reads. -/
def commV (c : Dev nD) (p k : Fin 4) (s : Fin 2) : Vec F S1x1x1x4x128 .f32 := fun i => commC m c (ix5 p k s (i 3) (i 4))

/-- The finished 512 rows of phase `p`. -/
def outBlk (c : Dev nD) (p : Fin 4) : FVec F S512x1024 .bf16 :=
  k0_pay35 k0_pay6 selH (k0_pay31 (gC m c)) (k0_pay32 (bC m c))
    (k0_pay33 (commV m c p 0 0) (commV m c p 1 0) (commV m c p 2 0) (commV m c p 3 0))
    (k0_pay34 (commV m c p 0 1) (commV m c p 1 1) (commV m c p 2 1)) (commV m c p 3 1) (xhalf m c p)

set_option backward.proofsInPublic true in
/-- Device `c`'s result. -/
def outC (c : Dev nD) : S2048x1024.Idx → F .bf16 := fun i =>
  outBlk m c ⟨(i 0).val / 512, by have := (i 0).isLt; change (i 0).val < 2048 at this; omega⟩
    (ix2 ⟨(i 0).val % 512, Nat.mod_lt _ (by decide)⟩ (i 1))

/-! ## The shares: three lent to the transfers, one kept -/

def lend : Fin 3 → PosShare TreeShare := ![fullShare.left.left, fullShare.left.right, fullShare.right.left]
def kept : PosShare TreeShare := fullShare.right.right

/-! ## The schedule -/

/-- The view of slot `(0, 0)`: every slot's transfer moves as much. -/
abbrev slotM : Memref sig .tc .vmem S2x4x128 .f32 :=
  ((Memref.whole cc0_scratch4 : Memref sig .tc .vmem S4x4x2x4x128 .f32).slice
    (Rect.unit (s := S4x4x2x4x128) ![0, 0, 0, 0, 0] S1x1x2x4x128.size inb_S4x4x2x4x128_S1x1x2x4x128_0_0_0_0_0) (fun _ => rfl)).squeeze
    S2x4x128 squeezes_S1x1x2x4x128_S2x4x128
def NN : ℕ := slotM.view.dmaCredit
theorem NN_pos : 0 < NN := View.dmaCredit_pos _ (by decide)

/-- Device `d`'s landing slot of phase `p`, source `j + 1`, at whatever contents. -/
def land (d : Dev nD) (p : Fin 4) (j : Fin 3) : sProp 𝕄 := iprop(∃ f : Buf (Elt F) (cmL d), cmL d ↦[cR p j.succ]{fullShare} f)
/-- The same slot once landed. -/
def landed (d : Dev nD) (p : Fin 4) (j : Fin 3) : sProp 𝕄 := iprop(cmL d ↦[cR p j.succ]{fullShare} commC m d)
/-- The share of its own slot device `c` lends the transfer to peer `j`. -/
def lent (c : Dev nD) (p : Fin 4) (j : Fin 3) : sProp 𝕄 := iprop(cmL c ↦[cR p 0]{lend j} commC m c)
/-- What a peer's unit on `c`'s barrier cell hands over: that peer's landing slots for `c`'s transfers to it. -/
def barPay (c : Dev nD) (j : Fin 3) : sProp 𝕄 :=
  iprop(land (peer c j) 0 j ∗ land (peer c j) 1 j ∗ land (peer c j) 2 j ∗ land (peer c j) 3 j)

omit [FloatOps F] in
instance land_storable (d : Dev nD) (p j) : BI.Storable (upEmb : UEmb _ 𝕄) (land (F := F) d p j) := by unfold land; infer_instance
instance landed_storable (d : Dev nD) (p j) : BI.Storable (upEmb : UEmb _ 𝕄) (landed (F := F) m d p j) := by unfold landed; infer_instance
instance lent_storable (d : Dev nD) (p j) : BI.Storable (upEmb : UEmb _ 𝕄) (lent (F := F) m d p j) := by unfold lent; infer_instance
omit [FloatOps F] in
instance barPay_storable (d : Dev nD) (j) : BI.Storable (upEmb : UEmb _ 𝕄) (barPay (F := F) d j) := by unfold barPay; infer_instance

def dutiesOf : Role → Finset (Fin 3)
  | .none => ∅
  | .bar => Finset.univ
  | .send _ _ => {0}
  | .recv _ _ => {0}
def amountOf' : Role → ℕ
  | .bar => 1
  | _ => NN
def payOf (c : Dev nD) (d : Fin 3) : Role → sProp 𝕄
  | .none => iprop(emp)
  | .bar => barPay c d
  | .send p j => lent m c p j
  | .recv p j => landed m c p j

/-- One round, round 0: a barrier cell has a duty per peer, of one unit each; a send or receive cell one duty of a slot's credit. -/
def Rd : Rounds.Schedule (GSem nD τ sig) (Fin 3) 𝕄 where
  duties g r := if r = 0 ∧ g.1.2 = .tc then dutiesOf (role g.2) else ∅
  unitless _ := False
  amount g _ _ := amountOf' (role g.2)
  payload g _ d := payOf m g.1.1 d (role g.2)
  amount_pos g _ _ _ := by
    cases role g.2 <;> first | exact Nat.one_pos | exact NN_pos

instance Rd_payload_storable (g : GSem nD τ sig) (r : ℕ) (d : Fin 3) :
    BI.Storable (upEmb : UEmb _ 𝕄) ((Rd (F := F) m).payload g r d) := by
  show BI.Storable upEmb (payOf m g.1.1 d (role g.2))
  cases role g.2 <;> (unfold payOf; infer_instance)

section Sched
variable (c : Dev nD) (p : Fin 4) (j : Fin 3)

theorem duties_bar : (Rd (F := F) m).duties (barCell c) 0 = Finset.univ := by
  dsimp only [Rd]; rw [if_pos ⟨rfl, rfl⟩]; rfl
theorem duties_send : (Rd (F := F) m).duties (sendCell c p j) 0 = {0} := by
  dsimp only [Rd]; rw [if_pos ⟨rfl, rfl⟩, role_send]; rfl
theorem duties_recv : (Rd (F := F) m).duties (recvCell c p j) 0 = {0} := by
  dsimp only [Rd]; rw [if_pos ⟨rfl, rfl⟩, role_recv]; rfl
theorem duties_later (g : GSem nD τ sig) : ∀ r, 1 ≤ r → (Rd (F := F) m).duties g r = ∅ :=
  fun r hr => by dsimp only [Rd]; rw [if_neg fun h => by omega]

theorem amount_bar (d : Fin 3) : (Rd (F := F) m).amount (barCell c) 0 d = 1 := rfl
theorem amount_send (d : Fin 3) : (Rd (F := F) m).amount (sendCell c p j) 0 d = NN := by dsimp only [Rd]; rw [role_send]; rfl
theorem amount_recv (d : Fin 3) : (Rd (F := F) m).amount (recvCell c p j) 0 d = NN := by dsimp only [Rd]; rw [role_recv]; rfl

theorem expect_bar : (Rd (F := F) m).expect (barCell c) 0 = 3 := by
  unfold Schedule.expect Schedule.amountOf
  rw [duties_bar, Finset.sum_congr rfl fun d _ => amount_bar m c d, Finset.sum_const, Finset.card_univ, Fintype.card_fin, smul_eq_mul]
theorem expect_send : (Rd (F := F) m).expect (sendCell c p j) 0 = NN := by
  unfold Schedule.expect Schedule.amountOf; rw [duties_send, Finset.sum_singleton, amount_send]
theorem expect_recv : (Rd (F := F) m).expect (recvCell c p j) 0 = NN := by
  unfold Schedule.expect Schedule.amountOf; rw [duties_recv, Finset.sum_singleton, amount_recv]

theorem payload_bar (d : Fin 3) : (Rd (F := F) m).payload (barCell c) 0 d = barPay c d := rfl
theorem payload_send (d : Fin 3) : (Rd (F := F) m).payload (sendCell c p j) 0 d = lent m c p j := by dsimp only [Rd]; rw [role_send]; rfl
theorem payload_recv (d : Fin 3) : (Rd (F := F) m).payload (recvCell c p j) 0 d = landed m c p j := by dsimp only [Rd]; rw [role_recv]; rfl

theorem rest_bar : bigSep ((Rd (F := F) m).duties (barCell c) 0 \ ∅) (fun d => (Rd (F := F) m).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton]
  rfl
theorem rest_send : bigSep ((Rd (F := F) m).duties (sendCell c p j) 0 \ ∅) (fun d => (Rd (F := F) m).payload (sendCell c p j) 0 d) = lent m c p j := by
  rw [Finset.sdiff_empty, duties_send, bigSep_singleton, payload_send]
theorem rest_recv : bigSep ((Rd (F := F) m).duties (recvCell c p j) 0 \ ∅) (fun d => (Rd (F := F) m).payload (recvCell c p j) 0 d) = landed m c p j := by
  rw [Finset.sdiff_empty, duties_recv, bigSep_singleton, payload_recv]

end Sched

/-! ## What each core owes, in the order it pays -/

/-- The debts of a list of cells and amounts, the first on the outside. -/
def debt : List (GSem nD τ sig × ℕ) → CellTallies nD τ sig Unit
  | [] => 0
  | x :: xs => debt xs + tallyAt x.1 () x.2

/-- A device's payments: a unit to each peer's barrier cell, then its twelve slots, phase by phase. -/
def bill (c : Dev nD) : List (GSem nD τ sig × ℕ) :=
  [(barCell (peer c 0), 1), (barCell (peer c 1), 1), (barCell (peer c 2), 1),
   (recvCell (peer c 0) 0 0, NN), (recvCell (peer c 1) 0 1, NN), (recvCell (peer c 2) 0 2, NN),
   (recvCell (peer c 0) 1 0, NN), (recvCell (peer c 1) 1 1, NN), (recvCell (peer c 2) 1 2, NN),
   (recvCell (peer c 0) 2 0, NN), (recvCell (peer c 1) 2 1, NN), (recvCell (peer c 2) 2 2, NN),
   (recvCell (peer c 0) 3 0, NN), (recvCell (peer c 1) 3 1, NN), (recvCell (peer c 2) 3 2, NN)]

def O₀ (c : Dev nD) : CellTallies nD τ sig Unit := debt (bill c)

def L (g : GSem nD τ sig) : Finset Unit := if g.1.2 = .tc then {()} else ∅
def lvOf : Role → ℕ
  | .bar => 1
  | .recv _ _ => 2
  | _ => 0
/-- Barrier cells at 1, receive cells at 2, everything else at 0. -/
def lv (g : GSem nD τ sig) (_ : Unit) : ℕ := lvOf (role g.2)

theorem L_of_ne (g : GSem nD τ sig) (h : g.1.2 ≠ .tc) : L g = ∅ := if_neg h
theorem L_tc (c : Dev nD) (sm : SemLoc sig) : L ((c : Thread nD τ), sm) = {()} := if_pos rfl

theorem debt_pos {l : List (GSem nD τ sig × ℕ)} {g : GSem nD τ sig} {u : Unit} (h : 0 < debt l g u) : ∃ x ∈ l, g = x.1 := by
  induction l with
  | nil => exact absurd h (Nat.lt_irrefl 0)
  | cons x xs ih =>
    unfold debt at h
    rw [Pi.add_apply, Finsupp.add_apply, tallyAt_apply] at h
    by_cases hx : g = x.1 ∧ u = ()
    · exact ⟨x, List.mem_cons_self, hx.1⟩
    · rw [if_neg hx, Nat.add_zero] at h
      obtain ⟨y, hy, e⟩ := ih h
      exact ⟨y, List.mem_cons_of_mem _ hy, e⟩

/-- A device may wait on a cell below every cell it still owes. -/
theorem mayWait_debt (c : Dev nD) (sm : SemLoc sig) (n : ℕ) (l : List (GSem nD τ sig × ℕ)) (hsm : lvOf (role sm) ≤ n)
    (hl : ∀ x ∈ l, x.1.1.2 = .tc ∧ n < lvOf (role x.1.2)) :
    (levAts L lv : sProp 𝕄) ⊢ MayWait (c : Thread nD τ) sm () (debt l) :=
  MayOwe.of_cut (L := L) (lev := lv) n (fun p hp => by rw [Finset.mem_singleton.mp hp, L_tc]; exact Finset.mem_singleton_self _)
    (fun g u hg => by obtain ⟨x, hx, rfl⟩ := debt_pos hg; rw [show L x.1 = {()} from if_pos (hl x hx).1]; exact Finset.mem_singleton_self _)
    (fun p hp => by rw [Finset.mem_singleton.mp hp]; exact hsm)
    (fun g u hg => by obtain ⟨x, hx, rfl⟩ := debt_pos hg; exact (hl x hx).2)

end Cert.NormProof
-- ==== Proof.Geom.lean ====
/-
The parts of the buffers that the body's rectangles name, and what a load, a store or a transfer through them reads and leaves,
at the contents of `Proto`.
-/
module

public import proofs.«01_k».proof.Proof.Proto
public import Idealize.ShloMosaic.Lib.Pipeline.ValueKit.Geometry

@[expose] public section

noncomputable section

namespace Cert.NormProof

open Cert.KernelIdeal Cert.KernelIdeal.Gen

open Idealize.ShloMosaic
open Idealize.ShloMosaic.TcCoe
open Idealize.ShloMosaic.ValueIdx
open Idealize.SL Idealize.SL.RA Idealize.SL.BI

variable {F : FTy → Type} [FloatOps F]
variable (m : (ℓ : Loc nD τ sig) → Buf (Elt F) ℓ)

abbrev xM : Memref sig .tc .hbm S2048x1024 .f32 := Memref.whole main_arg0
abbrev gM : Memref sig .tc .hbm S1x1024 .f32 := Memref.whole main_arg1
abbrev bM : Memref sig .tc .hbm S1x1024 .f32 := Memref.whole main_arg2
abbrev oM : Memref sig .tc .hbm S2048x1024 .bf16 := Memref.whole main_v1
abbrev xvM : Memref sig .tc .vmem S2048x1024 .f32 := Memref.whole cc0_scratch0
abbrev gvM : Memref sig .tc .vmem S1x1024 .f32 := Memref.whole cc0_scratch1
abbrev bvM : Memref sig .tc .vmem S1x1024 .f32 := Memref.whole cc0_scratch2
abbrev ovM : Memref sig .tc .vmem S2048x1024 .bf16 := Memref.whole cc0_scratch3
abbrev cmM : Memref sig .tc .vmem S4x4x2x4x128 .f32 := Memref.whole cc0_scratch4

/-! ## The sets -/

theorem xSet (q : Fin 8) {off inb} (h : off = ![256 * q.val, 0]) :
    (Rect.unit (s := S2048x1024) off S256x1024.size inb).set = xR q := by
  subst h; ext i
  rw [Rect.mem_set_unit, xR, Finset.mem_filter]
  have h1 := (i 1).isLt
  change (i 1).val < 1024 at h1
  constructor
  · intro h
    have h0 := h 0
    change 256 * q.val ≤ (i 0).val ∧ (i 0).val < 256 * q.val + 256 at h0
    exact ⟨Finset.mem_univ _, by omega⟩
  · rintro ⟨-, h⟩ a
    match a with
    | ⟨0, _⟩ => show 256 * q.val ≤ (i 0).val ∧ (i 0).val < 256 * q.val + 256; omega
    | ⟨1, _⟩ => show 0 ≤ (i 1).val ∧ (i 1).val < 0 + 1024; omega

theorem oSet (p : Fin 4) {off inb} (h : off = ![512 * p.val, 0]) :
    (Rect.unit (s := S2048x1024) off S512x1024.size inb).set = oR p := by
  subst h; ext i
  rw [Rect.mem_set_unit, oR, Finset.mem_filter]
  have h1 := (i 1).isLt
  change (i 1).val < 1024 at h1
  constructor
  · intro h
    have h0 := h 0
    change 512 * p.val ≤ (i 0).val ∧ (i 0).val < 512 * p.val + 512 at h0
    exact ⟨Finset.mem_univ _, by omega⟩
  · rintro ⟨-, h⟩ a
    match a with
    | ⟨0, _⟩ => show 512 * p.val ≤ (i 0).val ∧ (i 0).val < 512 * p.val + 512; omega
    | ⟨1, _⟩ => show 0 ≤ (i 1).val ∧ (i 1).val < 0 + 1024; omega

theorem cSet (p k : Fin 4) {off inb} (h : off = ![p.val, k.val, 0, 0, 0]) :
    (Rect.unit (s := S4x4x2x4x128) off S1x1x2x4x128.size inb).set = cR p k := by
  subst h; ext i
  rw [Rect.mem_set_unit, cR, Finset.mem_filter]
  have h2 := (i 2).isLt
  have h3 := (i 3).isLt
  have h4 := (i 4).isLt
  change (i 2).val < 2 at h2
  change (i 3).val < 4 at h3
  change (i 4).val < 128 at h4
  constructor
  · intro h
    have h0 := h 0
    have h1 := h 1
    change p.val ≤ (i 0).val ∧ (i 0).val < p.val + 1 at h0
    change k.val ≤ (i 1).val ∧ (i 1).val < k.val + 1 at h1
    exact ⟨Finset.mem_univ _, by omega, by omega⟩
  · rintro ⟨-, h, h'⟩ a
    match a with
    | ⟨0, _⟩ => show p.val ≤ (i 0).val ∧ (i 0).val < p.val + 1; omega
    | ⟨1, _⟩ => show k.val ≤ (i 1).val ∧ (i 1).val < k.val + 1; omega
    | ⟨2, _⟩ => show 0 ≤ (i 2).val ∧ (i 2).val < 0 + 2; omega
    | ⟨3, _⟩ => show 0 ≤ (i 3).val ∧ (i 3).val < 0 + 4; omega
    | ⟨4, _⟩ => show 0 ≤ (i 4).val ∧ (i 4).val < 0 + 128; omega

theorem sSet (p : Fin 4) (s h : Fin 2) {off inb} (e : off = ![p.val, 0, s.val, 2 * h.val, 0]) :
    (Rect.unit (s := S4x4x2x4x128) off S1x1x1x2x128.size inb).set = sR p s h := by
  subst e; ext i
  rw [Rect.mem_set_unit, sR, Finset.mem_filter]
  have h4 := (i 4).isLt
  change (i 4).val < 128 at h4
  constructor
  · intro e
    have h0 := e 0
    have h1 := e 1
    have h2 := e 2
    have h3 := e 3
    change p.val ≤ (i 0).val ∧ (i 0).val < p.val + 1 at h0
    change 0 ≤ (i 1).val ∧ (i 1).val < 0 + 1 at h1
    change s.val ≤ (i 2).val ∧ (i 2).val < s.val + 1 at h2
    change 2 * h.val ≤ (i 3).val ∧ (i 3).val < 2 * h.val + 2 at h3
    exact ⟨Finset.mem_univ _, by omega, by omega, by omega, by omega⟩
  · rintro ⟨-, h0, h1, h2, h3⟩ a
    match a with
    | ⟨0, _⟩ => show p.val ≤ (i 0).val ∧ (i 0).val < p.val + 1; omega
    | ⟨1, _⟩ => show 0 ≤ (i 1).val ∧ (i 1).val < 0 + 1; omega
    | ⟨2, _⟩ => show s.val ≤ (i 2).val ∧ (i 2).val < s.val + 1; omega
    | ⟨3, _⟩ => show 2 * h.val ≤ (i 3).val ∧ (i 3).val < 2 * h.val + 2; omega
    | ⟨4, _⟩ => show 0 ≤ (i 4).val ∧ (i 4).val < 0 + 128; omega

theorem vSet (p k : Fin 4) (s : Fin 2) {off inb} (e : off = ![p.val, k.val, s.val, 0, 0]) :
    (Rect.unit (s := S4x4x2x4x128) off S1x1x1x4x128.size inb).set ⊆ cR p k := by
  subst e; intro i
  rw [Rect.mem_set_unit, cR, Finset.mem_filter]
  intro h
  have h0 := h 0
  have h1 := h 1
  change p.val ≤ (i 0).val ∧ (i 0).val < p.val + 1 at h0
  change k.val ≤ (i 1).val ∧ (i 1).val < k.val + 1 at h1
  exact ⟨Finset.mem_univ _, by omega, by omega⟩

/-! ## Disjoint parts and their unions -/

theorem xR_disj (q q' : Fin 8) (h : q ≠ q') : Disjoint (xR q) (xR q') :=
  Finset.disjoint_filter.mpr fun i _ h1 h2 => h (Fin.ext (h1.symm.trans h2))
theorem oR_disj (q q' : Fin 4) (h : q ≠ q') : Disjoint (oR q) (oR q') :=
  Finset.disjoint_filter.mpr fun i _ h1 h2 => h (Fin.ext (h1.symm.trans h2))
theorem oR_eq (p : Fin 4) : oR p = xR ⟨2 * p.val, by omega⟩ ∪ xR ⟨2 * p.val + 1, by omega⟩ := by
  ext i
  simp only [oR, xR, Finset.mem_union, Finset.mem_filter, Finset.mem_univ, true_and]
  omega
theorem xR_cover : (Finset.univ : Finset S2048x1024.Idx) = Finset.univ.biUnion xR := by
  ext i
  simp only [xR, Finset.mem_biUnion, Finset.mem_filter, Finset.mem_univ, true_and, true_iff]
  have h0 := (i 0).isLt
  change (i 0).val < 2048 at h0
  exact ⟨⟨(i 0).val / 256, by omega⟩, rfl⟩
theorem oR_cover : (Finset.univ : Finset S2048x1024.Idx) = Finset.univ.biUnion oR := by
  ext i
  simp only [oR, Finset.mem_biUnion, Finset.mem_filter, Finset.mem_univ, true_and, true_iff]
  have h0 := (i 0).isLt
  change (i 0).val < 2048 at h0
  exact ⟨⟨(i 0).val / 512, by omega⟩, rfl⟩
theorem cR_disj (a b : Fin 4 × Fin 4) (h : a ≠ b) : Disjoint (cR a.1 a.2) (cR b.1 b.2) :=
  Finset.disjoint_filter.mpr fun i _ h1 h2 => h (Prod.ext (Fin.ext (h1.1.symm.trans h2.1)) (Fin.ext (h1.2.symm.trans h2.2)))
theorem cR_cover : (Finset.univ : Finset S4x4x2x4x128.Idx) = Finset.univ.biUnion fun a : Fin 4 × Fin 4 => cR a.1 a.2 := by
  ext i
  simp only [cR, Finset.mem_biUnion, Finset.mem_filter, Finset.mem_univ, true_and, true_iff]
  exact ⟨(i 0, i 1), rfl, rfl⟩
theorem sR_disj (p : Fin 4) (a b : Fin 2 × Fin 2) (h : a ≠ b) : Disjoint (sR p a.1 a.2) (sR p b.1 b.2) :=
  Finset.disjoint_filter.mpr fun i _ h1 h2 =>
    h (Prod.ext (Fin.ext (h1.2.2.1.symm.trans h2.2.2.1)) (Fin.ext (h1.2.2.2.symm.trans h2.2.2.2)))
theorem sR_cover (p : Fin 4) : cR p 0 = Finset.univ.biUnion fun a : Fin 2 × Fin 2 => sR p a.1 a.2 := by
  ext i
  simp only [cR, sR, Finset.mem_biUnion, Finset.mem_filter, Finset.mem_univ, true_and]
  have h3 := (i 3).isLt
  change (i 3).val < 4 at h3
  constructor
  · rintro ⟨h0, h1⟩; exact ⟨(i 2, ⟨(i 3).val / 2, by omega⟩), h0, h1, rfl, rfl⟩
  · rintro ⟨a, h0, h1, -, -⟩; exact ⟨h0, h1⟩

/-! ## What the rectangles read and leave -/

theorem read_chunk (c : Dev nD) (q : Fin 8) {off inb} (h : off = ![256 * q.val, 0]) :
    (xvM.access (Rect.unit (s := S2048x1024) off S256x1024.size inb)).read (Elt F) (xC m c) = xchunk m c q := by
  subst h; funext i
  show xC m c _ = xC m c _
  congr 1; funext a
  match a with
  | ⟨0, _⟩ => exact Fin.ext (by show _ + 1 * (i 0).val = _; simp [Rect.unit])
  | ⟨1, _⟩ => exact Fin.ext (by show _ + 1 * (i 1).val = _; simp [Rect.unit])

theorem read_half (c : Dev nD) (p : Fin 4) {off inb} (h : off = ![512 * p.val, 0]) :
    (xvM.access (Rect.unit (s := S2048x1024) off S512x1024.size inb)).read (Elt F) (xC m c) = xhalf m c p := by
  subst h; funext i
  show xC m c _ = xC m c _
  congr 1; funext a
  match a with
  | ⟨0, _⟩ => exact Fin.ext (by show _ + 1 * (i 0).val = _; simp [Rect.unit])
  | ⟨1, _⟩ => exact Fin.ext (by show _ + 1 * (i 1).val = _; simp [Rect.unit])

theorem read_comm (c : Dev nD) (p k : Fin 4) (s : Fin 2) {off inb} (h : off = ![p.val, k.val, s.val, 0, 0]) :
    (cmM.access (Rect.unit (s := S4x4x2x4x128) off S1x1x1x4x128.size inb)).read (Elt F) (commC m c) = commV m c p k s := by
  subst h; funext i
  show commC m c _ = commC m c _
  have h0 := (i 0).isLt
  have h1 := (i 1).isLt
  have h2 := (i 2).isLt
  change (i 0).val < 1 at h0
  change (i 1).val < 1 at h1
  change (i 2).val < 1 at h2
  congr 1; funext a
  match a with
  | ⟨0, _⟩ => exact Fin.ext (by show p.val + 1 * (i 0).val = p.val; omega)
  | ⟨1, _⟩ => exact Fin.ext (by show k.val + 1 * (i 1).val = k.val; omega)
  | ⟨2, _⟩ => exact Fin.ext (by show s.val + 1 * (i 2).val = s.val; omega)
  | ⟨3, _⟩ => exact Fin.ext (by show 0 + 1 * (i 3).val = (i 3).val; omega)
  | ⟨4, _⟩ => exact Fin.ext (by show 0 + 1 * (i 4).val = (i 4).val; omega)

/-- A chunk's transfer leaves the block's own elements. -/
theorem in_write (c : Dev nD) (q : Fin 8) {off inb} (h : off = ![256 * q.val, 0]) (fd : S2048x1024.Idx → F .f32) (i : S2048x1024.Idx) (hi : i ∈ xR q) :
    (xvM.slice (Rect.unit (s := S2048x1024) off S256x1024.size inb) (fun _ => rfl)).view.write (Elt F) fd
      ((xM.slice (Rect.unit (s := S2048x1024) off S256x1024.size inb) (fun _ => rfl)).view.read (Elt F) (xC m c)) Finset.univ i = xC m c i := by
  rw [← xSet q (inb := inb) h, ← View.set_slice_whole cc0_scratch0] at hi
  obtain ⟨x, -, rfl⟩ := Finset.mem_map.mp hi
  exact View.write_emb_of_mem _ _ (Finset.mem_univ x)

theorem out_write (c : Dev nD) (p : Fin 4) {off inb} (h : off = ![512 * p.val, 0]) (fd : S2048x1024.Idx → F .bf16) (i : S2048x1024.Idx) (hi : i ∈ oR p) :
    (oM.slice (Rect.unit (s := S2048x1024) off S512x1024.size inb) (fun _ => rfl)).view.write (Elt F) fd
      ((ovM.slice (Rect.unit (s := S2048x1024) off S512x1024.size inb) (fun _ => rfl)).view.read (Elt F) (outC m c)) Finset.univ i = outC m c i := by
  rw [← oSet p (inb := inb) h, ← View.set_slice_whole main_v1] at hi
  obtain ⟨x, -, rfl⟩ := Finset.mem_map.mp hi
  exact View.write_emb_of_mem _ _ (Finset.mem_univ x)

theorem ov_write (c : Dev nD) (p : Fin 4) {off inb} (h : off = ![512 * p.val, 0]) (fd : S2048x1024.Idx → F .bf16) (i : S2048x1024.Idx) (hi : i ∈ oR p) :
    (ovM.access (Rect.unit (s := S2048x1024) off S512x1024.size inb)).write (Elt F) fd (outBlk m c p) Finset.univ i = outC m c i := by
  rw [← oSet p (inb := inb) h, ← View.set_slice_whole cc0_scratch3] at hi
  obtain ⟨x, -, rfl⟩ := Finset.mem_map.mp hi
  refine (View.write_emb_of_mem _ _ (Finset.mem_univ x)).trans ?_
  subst h
  have h0 := (x 0).isLt
  change (x 0).val < 512 at h0
  show outBlk m c p x = outBlk m c ⟨(512 * p.val + 1 * (x 0).val) / 512, _⟩ (ix2 ⟨(512 * p.val + 1 * (x 0).val) % 512, _⟩ _)
  have e1 : (⟨(512 * p.val + 1 * (x 0).val) / 512, by omega⟩ : Fin 4) = p := Fin.ext (by show _ / 512 = _; omega)
  rw [e1]
  congr 1; funext a
  match a with
  | ⟨0, _⟩ => exact Fin.ext (by show (x 0).val = (512 * p.val + 1 * (x 0).val) % 512; omega)
  | ⟨1, _⟩ => exact Fin.ext (by show (x 1).val = 0 + 1 * (x 1).val; omega)

theorem sub_write (c : Dev nD) (p : Fin 4) (s h : Fin 2) {off inb} (e : off = ![p.val, 0, s.val, 2 * h.val, 0]) (fd : S4x4x2x4x128.Idx → F .f32)
    (w : FVec F S1x1x1x2x128 .f32) (hw : w = pack s (xchunk m c ⟨2 * p.val + h.val, by omega⟩)) (i : S4x4x2x4x128.Idx) (hi : i ∈ sR p s h) :
    (cmM.access (Rect.unit (s := S4x4x2x4x128) off S1x1x1x2x128.size inb)).write (Elt F) fd w Finset.univ i = commC m c i := by
  rw [← sSet p s h (inb := inb) e, ← View.set_slice_whole cc0_scratch4] at hi
  obtain ⟨x, -, rfl⟩ := Finset.mem_map.mp hi
  refine (View.write_emb_of_mem _ _ (Finset.mem_univ x)).trans ?_
  subst e hw
  have h0 := (x 0).isLt
  have h1 := (x 1).isLt
  have h2 := (x 2).isLt
  have h3 := (x 3).isLt
  change (x 0).val < 1 at h0
  change (x 1).val < 1 at h1
  change (x 2).val < 1 at h2
  change (x 3).val < 2 at h3
  show pack s (xchunk m c ⟨2 * p.val + h.val, _⟩) x
    = pack ⟨s.val + 1 * (x 2).val, _⟩ (xchunk m (back c ⟨0 + 1 * (x 1).val, _⟩) ⟨2 * (p.val + 1 * (x 0).val) + (2 * h.val + 1 * (x 3).val) / 2, _⟩)
        (ix5 (0 : Fin 1) (0 : Fin 1) (0 : Fin 1) ⟨(2 * h.val + 1 * (x 3).val) % 2, _⟩ ⟨0 + 1 * (x 4).val, _⟩)
  have e1 : (⟨s.val + 1 * (x 2).val, by omega⟩ : Fin 2) = s := Fin.ext (by show _ + _ = _; omega)
  have e2 : (⟨0 + 1 * (x 1).val, by omega⟩ : Fin 4) = 0 := Fin.ext (by show _ + _ = 0; omega)
  have e3 : (⟨2 * (p.val + 1 * (x 0).val) + (2 * h.val + 1 * (x 3).val) / 2, by omega⟩ : Fin 8) = ⟨2 * p.val + h.val, by omega⟩ :=
    Fin.ext (by show _ + _ = _ + _; omega)
  rw [e1, e2, e3, back_zero]
  congr 1; funext a
  match a with
  | ⟨0, _⟩ => exact Fin.ext (by show (x 0).val = 0; omega)
  | ⟨1, _⟩ => exact Fin.ext (by show (x 1).val = 0; omega)
  | ⟨2, _⟩ => exact Fin.ext (by show (x 2).val = 0; omega)
  | ⟨3, _⟩ => exact Fin.ext (by show (x 3).val = (2 * h.val + 1 * (x 3).val) % 2; omega)
  | ⟨4, _⟩ => exact Fin.ext (by show (x 4).val = 0 + 1 * (x 4).val; omega)

/-! ## The slots a transfer moves -/

/-- Slot `(p, k)` as the transfers name it. -/
abbrev slot (off : Fin 5 → ℕ) (inb : ∀ a, off a + S1x1x2x4x128.size a ≤ S4x4x2x4x128.size a) : Memref sig .tc .vmem S2x4x128 .f32 :=
  (cmM.slice (Rect.unit (s := S4x4x2x4x128) off S1x1x2x4x128.size inb) (fun _ => rfl)).squeeze S2x4x128 squeezes_S1x1x2x4x128_S2x4x128

theorem slot_set (p k : Fin 4) {off inb} (h : off = ![p.val, k.val, 0, 0, 0]) : (slot off inb).view.set = cR p k := by
  have e : (slot off inb).view.set = (Rect.unit (s := S4x4x2x4x128) off S1x1x2x4x128.size inb).set := by
    refine (View.set_reshape _ _).trans ?_
    exact View.set_slice_whole cc0_scratch4 _
  rw [e]; exact cSet p k h

/-- A slot landed on peer `j` holds what that peer's finished buffer holds. -/
theorem slot_write (c : Dev nD) (p : Fin 4) (j : Fin 3) {off inb off' inb'} (h : off = ![p.val, (0 : Fin 4).val, 0, 0, 0])
    (h' : off' = ![p.val, j.succ.val, 0, 0, 0]) (fd : S4x4x2x4x128.Idx → F .f32) (i : S4x4x2x4x128.Idx) (hi : i ∈ cR p j.succ) :
    (slot off' inb').view.write (Elt F) fd ((slot off inb).view.read (Elt F) (commC m c)) Finset.univ i = commC m (peer c j) i := by
  rw [← slot_set p j.succ (inb := inb') h'] at hi
  obtain ⟨x, -, rfl⟩ := Finset.mem_map.mp hi
  refine (View.write_emb_of_mem _ _ (Finset.mem_univ x)).trans ?_
  subst h h'
  show commC m c ((Rect.unit (s := S4x4x2x4x128) ![p.val, (0 : Fin 4).val, 0, 0, 0] S1x1x2x4x128.size inb).emb (Shape.reshapeEquiv _ x))
    = commC m (peer c j) ((Rect.unit (s := S4x4x2x4x128) ![p.val, j.succ.val, 0, 0, 0] S1x1x2x4x128.size inb').emb (Shape.reshapeEquiv _ x))
  generalize Shape.reshapeEquiv _ x = y
  have h1 := (y 1).isLt
  change (y 1).val < 1 at h1
  show pack _ (xchunk m (back c ⟨0 + 1 * (y 1).val, _⟩) _) _ = pack _ (xchunk m (back (peer c j) ⟨j.succ.val + 1 * (y 1).val, _⟩) _) _
  have e1 : (⟨0 + 1 * (y 1).val, by omega⟩ : Fin 4) = 0 := Fin.ext (by show _ + _ = 0; omega)
  have e2 : (⟨j.succ.val + 1 * (y 1).val, by have := j.succ.isLt; omega⟩ : Fin 4) = j.succ := Fin.ext (by show _ + _ = _; omega)
  rw [e1, e2, back_zero, back_peer]
  rfl

end Cert.NormProof
-- ==== Proof.Ops.lean ====
/-
One rule per memory operation of the body, at the parts and contents of `Proto`: what the operation takes from the device's
holdings and what it leaves, for any continuation.
-/
module

public import proofs.«01_k».proof.Proof.Geom

@[expose] public section

noncomputable section

namespace Cert.NormProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- The body's programs on device `c`, run to `Q`. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## The protocol's cells, indexed -/

/-- A device's cells: the barrier, the send cells (`false`), the receive cells (`true`). -/
abbrev CIx : Type := Option (Bool × Fin 4 × Fin 3)
def csem : CIx → SemLoc sig
  | none => .reg barS
  | some (false, p, j) => .dma (sendS p j)
  | some (true, p, j) => .dma (recvS p j)
abbrev kcell (ck : Dev nD × CIx) : GSem nD τ sig := ((ck.1 : Thread nD τ), csem ck.2)

variable (K : Dev nD × CIx → ℕ)

/-- What every device knows throughout: the cells' invariants, that each cell's round 0 is reached, the levels. -/
def Env : sProp 𝕄 :=
  iprop((bigSep Finset.univ fun ck : Dev nD × CIx => cellInv ER (Rd m) (K ck) (kcell ck))
    ∗ (bigSep Finset.univ fun ck : Dev nD × CIx => reached ER (kcell ck) 0) ∗ levAts L lv)

instance Env_persistent : BI.Persistent (Env m K) := by unfold Env; infer_instance

theorem inv_elim (ck : Dev nD × CIx) :
    (bigSep Finset.univ fun ck : Dev nD × CIx => (cellInv ER (Rd m) (K ck) (kcell ck) : sProp 𝕄)) ⊢ cellInv ER (Rd m) (K ck) (kcell ck) :=
  bigSep_elim (Finset.mem_univ ck)
theorem reached_elim (ck : Dev nD × CIx) :
    (bigSep Finset.univ fun ck : Dev nD × CIx => (reached ER (kcell ck) 0 : sProp 𝕄)) ⊢ reached ER (kcell ck) 0 :=
  bigSep_elim (Finset.mem_univ ck)
theorem env_inv (ck : Dev nD × CIx) : Env m K ⊢ cellInv ER (Rd m) (K ck) (kcell ck) := by
  unfold Env; iintro ⟨H, -, -⟩
  ihave H' := (inv_elim m K ck) $$ H
  iexact H'
theorem env_reached (ck : Dev nD × CIx) : Env m K ⊢ reached ER (kcell ck) 0 := by
  unfold Env; iintro ⟨-, H, -⟩
  ihave H' := (reached_elim ck) $$ H
  iexact H'
theorem env_lev : Env m K ⊢ levAts L lv := by
  unfold Env; iintro ⟨-, -, H⟩; iexact H

/-- What device `c` still owes, its waits recorded at whatever cells. -/
def Ow (c : Dev nD) (l : List (GSem nD τ sig × ℕ)) : sProp 𝕄 := iprop(∃ W, owes (c : Thread nD τ) (debt l) W)

/-- A debt of barrier and receive cells only: what a device owes at its local waits. -/
def High (n : ℕ) (l : List (GSem nD τ sig × ℕ)) : Prop := ∀ x ∈ l, x.1.1.2 = .tc ∧ n < lvOf (role x.1.2)

theorem high_nil (n : ℕ) : High n [] := fun x h => absurd h List.not_mem_nil
theorem high_bar (c : Dev nD) (l) (h : High 0 l) : High 0 ((barCell c, 1) :: l) := fun x hx => by
  rcases List.mem_cons.mp hx with rfl | hx
  · exact ⟨rfl, by show 0 < lvOf (role (.reg barS)); rw [role_bar]; decide⟩
  · exact h x hx
theorem high_recv (c : Dev nD) (p j) {n : ℕ} (hn : n < 2) (l) (h : High n l) : High n ((recvCell c p j, NN) :: l) := fun x hx => by
  rcases List.mem_cons.mp hx with rfl | hx
  · exact ⟨rfl, by show n < lvOf (role (.dma (recvS p j))); rw [role_recv]; exact hn⟩
  · exact h x hx

theorem env_mayWait (c : Dev nD) (sm : SemLoc sig) (n : ℕ) (l : List (GSem nD τ sig × ℕ)) (hsm : lvOf (role sm) ≤ n) (hl : High n l) :
    Env m K ⊢ MayWait (c : Thread nD τ) sm () (debt l) := (env_lev m K).trans (mayWait_debt c sm n l hsm hl)

variable {α : Type} (c : Dev nD)

theorem run_ret {a : α} {Q : α → sProp 𝕄} : Q a ⊢ run c (Prog.ret a) Q := by
  show Q a ⊢ wp _ _ _ _ _
  rw [wp_ret]; iintro H; imodintro; iexact H

/-! ## The chunks of `x` -/

def NX : ℕ := (xvM.slice (Rect.unit (s := S2048x1024) ![0, 0] S256x1024.size inb_S2048x1024_S256x1024_0_0) (fun _ => rfl)).view.dmaCredit
theorem NX_pos : 0 < NX := View.dmaCredit_pos _ (by decide)

def inRes (q : Fin 8) : sProp 𝕄 :=
  iprop((xL c ↦[xR q]{fullShare} xC m c) ∗ (∃ f : Buf (Elt F) (xvL c), xvL c ↦[xR q]{fullShare} f) ∗ semVal ((c : Thread nD τ), .dma (inS q)) 0)
def inFl (q : Fin 8) : sProp 𝕄 :=
  Transfers.Flight EC (c : Thread nD τ) (.dma (inS q)) () NX iprop((xvL c ↦[xR q]{fullShare} xC m c) ∗ (xL c ↦[xR q]{fullShare} xC m c))
def inDone (q : Fin 8) : sProp 𝕄 :=
  iprop((xvL c ↦[xR q]{fullShare} xC m c) ∗ (xL c ↦[xR q]{fullShare} xC m c) ∗ semVal ((c : Thread nD τ), .dma (inS q)) 0)

theorem op_in (q : Fin 8) {off inb} {sm : DmaSem sig} {h1 h2 h3} (hoff : off = ![256 * q.val, 0]) (hsm : sm = inS q)
    {k : PUnit → Prog (TpuEff nD τ sig (Elt F) Λ₀ .tc) α} {Q : α → sProp 𝕄} :
    inRes m c q ⊢ iprop((inFl m c q -∗ run c (k ⟨⟩) Q) -∗ run c
      (.op (.enqueueDma (xM.slice (Rect.unit (s := S2048x1024) off S256x1024.size inb) (fun _ => rfl))
        (.here (xvM.slice (Rect.unit (s := S2048x1024) off S256x1024.size inb) (fun _ => rfl))) (.dma sm) h1 h2 h3) k) Q) := by
  subst hsm
  unfold inRes
  iintro ⟨Hx, ⟨%f, Hv⟩, Hs⟩ Hk
  have eS : (xM.slice (Rect.unit (s := S2048x1024) off S256x1024.size inb) (fun _ => rfl)).view.set = xR q :=
    (View.set_slice_whole main_arg0 _).trans (xSet q hoff)
  have eD : (xvM.slice (Rect.unit (s := S2048x1024) off S256x1024.size inb) (fun _ => rfl)).view.set = xR q :=
    (View.set_slice_whole cc0_scratch0 _).trans (xSet q hoff)
  ihave Hx' := (Entails.of_eq (show (xL c ↦[xR q]{fullShare} xC m c : sProp 𝕄)
    = ((xM.slice (Rect.unit (s := S2048x1024) off S256x1024.size inb) (fun _ => rfl)).view.loc (c : Thread nD τ)
        ↦[(xM.slice (Rect.unit (s := S2048x1024) off S256x1024.size inb) (fun _ => rfl)).view.set]{fullShare} xC m c) by rw [eS])) $$ Hx
  iapply (Transfers.wp_dmaLocal EC 𝒱₀ (c : Thread nD τ) none (src := xM.slice (Rect.unit (s := S2048x1024) off S256x1024.size inb) (fun _ => rfl)) (dst := xvM.slice (Rect.unit (s := S2048x1024) off S256x1024.size inb) (fun _ => rfl)) (Sd := xR q) () NX rfl NX_pos eD.subset) $$ [Hx' Hv Hs]
  · isplitl [Hx']; · iexact Hx'
    isplitl [Hv]; · iexact Hv
    iexact Hs
  iintro Hf
  iapply Hk
  unfold inFl
  rw [eS]
  ihave Hg := (Entails.of_eq (congrArg (fun P => (Transfers.Flight EC (c : Thread nD τ) (.dma (inS q)) () NX iprop(P ∗ (xL c ↦[xR q]{fullShare} xC m c)) : sProp 𝕄))
    (pointsTo_congr (ℓ := xvL c) (q := fullShare) fun i hi => in_write m c q (inb := inb) hoff f i hi))) $$ Hf
  iexact Hg

theorem op_in_wait (q : Fin 8) {off inb h1 h2} {sm : DmaSem sig} (hsm : sm = inS q)
    (l) (hl : High 0 l) {k : PUnit → Prog (TpuEff nD τ sig (Elt F) Λ₀ .tc) α} {Q : α → sProp 𝕄} :
    Env m K ⊢ iprop(inFl m c q -∗ Ow c l -∗ ((inDone m c q ∗ Ow c l) -∗ run c (k ⟨⟩) Q) -∗ run c
      (.op (.waitDma2 sm (xM.slice (Rect.unit (s := S2048x1024) off S256x1024.size inb) (fun _ => rfl))
        (xvM.slice (Rect.unit (s := S2048x1024) off S256x1024.size inb) (fun _ => rfl)) h1 h2) k) Q) := by
  subst hsm
  unfold inFl Ow inDone
  iintro HE Hf ⟨%W, HO⟩ Hk
  iapply (Transfers.wp_waitLocalO EC 𝒱₀ (c : Thread nD τ) none (srcw := xM.slice (Rect.unit (s := S2048x1024) off S256x1024.size inb) (fun _ => rfl)) (dstw := xvM.slice (Rect.unit (s := S2048x1024) off S256x1024.size inb) (fun _ => rfl)) (hsrc := h1) (hdst := h2) () (N := NX) rfl) $$ [HE Hf HO]
  · isplitl [Hf]; · iexact Hf
    isplitl [HO]; · iexact HO
    iapply (env_mayWait m K c (.dma (inS q)) 0 l (by rw [role_in]; exact Nat.le_refl _) hl); iexact HE
  iintro ⟨⟨Hv, Hx⟩, Hs, HO⟩
  iapply Hk
  isplitl [Hv Hx Hs]
  · isplitl [Hv]; · iexact Hv
    isplitl [Hx] <;> iassumption
  iexists _; iexact HO

theorem op_chunk (q : Fin 8) {off inb hl} (hoff : off = ![256 * q.val, 0])
    {k : Vec F S256x1024 .f32 → Prog (TpuEff nD τ sig (Elt F) Λ₀ .tc) α} {Q : α → sProp 𝕄} :
    inDone m c q ⊢ iprop((inDone m c q -∗ run c (k (xchunk m c q)) Q) -∗ run c
      (.op (.load xvM (Rect.unit (s := S2048x1024) off S256x1024.size inb).toLoadRect hl) k) Q) := by
  unfold inDone
  iintro ⟨Hv, Hx, Hs⟩ Hk
  iapply (wp_load_rect 𝒱₀ (c : Thread nD τ) none Set.univ (m := xvM) (S := xR q)
    (r := Rect.unit (s := S2048x1024) off S256x1024.size inb)
    (by rw [View.set_slice_whole cc0_scratch0, xSet q hoff])) $$ Hv
  iintro Hv
  rw [read_chunk m c q hoff]
  iapply Hk
  isplitl [Hv]; · iexact Hv
  isplitl [Hx] <;> iassumption

theorem op_half (p : Fin 4) {off inb hl} (hoff : off = ![512 * p.val, 0]) (q q' : Fin 8) (hq : q.val = 2 * p.val) (hq' : q'.val = 2 * p.val + 1)
    {k : Vec F S512x1024 .f32 → Prog (TpuEff nD τ sig (Elt F) Λ₀ .tc) α} {Q : α → sProp 𝕄} :
    inDone m c q ⊢ iprop(inDone m c q' -∗ ((inDone m c q ∗ inDone m c q') -∗ run c (k (xhalf m c p)) Q) -∗ run c
      (.op (.load xvM (Rect.unit (s := S2048x1024) off S512x1024.size inb).toLoadRect hl) k) Q) := by
  unfold inDone
  iintro ⟨Hv, Hx, Hs⟩ ⟨Hv', Hx', Hs'⟩ Hk
  have eU : oR p = xR q ∪ xR q' := by
    rw [oR_eq p, show q = ⟨2 * p.val, by omega⟩ from Fin.ext hq, show q' = ⟨2 * p.val + 1, by omega⟩ from Fin.ext hq']
  have eP : (xvL c ↦[xR q ∪ xR q']{fullShare} xC m c : sProp 𝕄) = iprop((xvL c ↦[xR q]{fullShare} xC m c) ∗ (xvL c ↦[xR q']{fullShare} xC m c)) := by
    have hd : Disjoint (xR q) (xR q') := xR_disj q q' (fun e => by rw [e] at hq; omega)
    have h : (xvL c ↦[xR q ∪ xR q']{fullShare} xC m c : sProp 𝕄) ⊣⊢ iprop((xvL c ↦[xR q]{fullShare} xC m c) ∗ (xvL c ↦[xR q']{fullShare} xC m c)) :=
      pointsTo_union hd
    exact BI.Entails.antisymm h.1 h.2
  ihave Hu := (Entails.of_eq eP.symm) $$ [Hv Hv']
  · isplitl [Hv] <;> iassumption
  iapply (wp_load_rect 𝒱₀ (c : Thread nD τ) none Set.univ (m := xvM) (S := xR q ∪ xR q')
    (r := Rect.unit (s := S2048x1024) off S512x1024.size inb)
    (by rw [View.set_slice_whole cc0_scratch0, oSet p hoff, eU])) $$ Hu
  iintro Hu
  rw [read_half m c p hoff]
  ihave Hu' := (Entails.of_eq eP) $$ Hu
  icases Hu' with ⟨Hv, Hv'⟩
  iapply Hk
  isplitl [Hv Hx Hs]
  · isplitl [Hv]; · iexact Hv
    isplitl [Hx] <;> iassumption
  isplitl [Hv']; · iexact Hv'
  isplitl [Hx'] <;> iassumption

/-! ## The statistics' store -/

def sub (p : Fin 4) (s h : Fin 2) : sProp 𝕄 := iprop(∃ f : Buf (Elt F) (cmL c), cmL c ↦[sR p s h]{fullShare} f)
def subD (p : Fin 4) (s h : Fin 2) : sProp 𝕄 := iprop(cmL c ↦[sR p s h]{fullShare} commC m c)

theorem op_sub_load (p : Fin 4) (s h : Fin 2) {off inb hl} (hoff : off = ![p.val, 0, s.val, 2 * h.val, 0])
    {k : Vec F S1x1x1x2x128 .f32 → Prog (TpuEff nD τ sig (Elt F) Λ₀ .tc) α} (k' : Prog (TpuEff nD τ sig (Elt F) Λ₀ .tc) α) (hk : ∀ v, k v = k') {Q : α → sProp 𝕄} :
    sub c p s h ⊢ iprop((sub c p s h -∗ run c k' Q) -∗ run c
      (.op (.load cmM (Rect.unit (s := S4x4x2x4x128) off S1x1x1x2x128.size inb).toLoadRect hl) k) Q) := by
  unfold sub
  iintro ⟨%f, Hs⟩ Hk
  iapply (wp_load_rect 𝒱₀ (c : Thread nD τ) none Set.univ (m := cmM) (S := sR p s h)
    (r := Rect.unit (s := S4x4x2x4x128) off S1x1x1x2x128.size inb)
    (by rw [View.set_slice_whole cc0_scratch4, sSet p s h hoff])) $$ Hs
  iintro Hs
  rw [hk]
  iapply Hk
  iexists f; iexact Hs

theorem op_sub_store (p : Fin 4) (s h : Fin 2) {off inb h1 h2} {w : FVec F S1x1x1x2x128 .f32} (hoff : off = ![p.val, 0, s.val, 2 * h.val, 0])
    (hw : w = pack s (xchunk m c ⟨2 * p.val + h.val, by omega⟩)) {k : PUnit → Prog (TpuEff nD τ sig (Elt F) Λ₀ .tc) α} {Q : α → sProp 𝕄} :
    sub c p s h ⊢ iprop((subD m c p s h -∗ run c (k ⟨⟩) Q) -∗ run c
      (.op (.store cmM (Rect.unit (s := S4x4x2x4x128) off S1x1x1x2x128.size inb) w Finset.univ h1 h2) k) Q) := by
  unfold sub subD
  iintro ⟨%f, Hs⟩ Hk
  iapply (wp_store 𝒱₀ (c : Thread nD τ) none Set.univ (m := cmM) (S := sR p s h)
    (r := Rect.unit (s := S4x4x2x4x128) off S1x1x1x2x128.size inb) (Mk := Finset.univ)
    (by rw [View.setOn_univ, View.set_slice_whole cc0_scratch4, sSet p s h hoff])) $$ Hs
  iintro Hs
  iapply Hk
  ihave Hg := (Entails.of_eq (pointsTo_congr (ℓ := cmL c) (q := fullShare) fun i hi => sub_write m c p s h (inb := inb) hoff f w hw i hi)) $$ Hs
  iexact Hg

/-! ## The slots: lending, sending, landing, loading -/

def keptP (p : Fin 4) : sProp 𝕄 := iprop(cmL c ↦[cR p 0]{kept} commC m c)

/-- The four stores of a phase are its slot. -/
theorem subs_eq (p : Fin 4) : iprop(cmL c ↦[cR p 0]{fullShare} commC m c : sProp 𝕄)
    = iprop(subD m c p 0 0 ∗ subD m c p 0 1 ∗ subD m c p 1 0 ∗ subD m c p 1 1) := by
  rw [sR_cover p, pointsTo_biUnion _ _ (fun a _ b _ h => sR_disj p a b h),
    bigSep_univ_eq_bigSepL [(0, 0), (0, 1), (1, 0), (1, 1)] (by decide) (by decide), bigSepL_cons_cons, bigSepL_cons_cons, bigSepL_cons_cons, bigSepL_singleton]
  rfl

/-- A full share is the three lent and the kept one. -/
theorem shares_eq (ℓ : Loc nD τ sig) (S : Finset (Idx ℓ)) (f : Buf (Elt F) ℓ) : (ℓ ↦[S]{fullShare} f : sProp 𝕄)
    = iprop((ℓ ↦[S]{lend 0} f) ∗ (ℓ ↦[S]{lend 1} f) ∗ (ℓ ↦[S]{lend 2} f) ∗ (ℓ ↦[S]{kept} f)) := by
  have e (q : PosShare TreeShare) : (ℓ ↦[S]{q} f : sProp 𝕄) = iprop((ℓ ↦[S]{q.left} f) ∗ (ℓ ↦[S]{q.right} f)) :=
    BI.Entails.antisymm (pointsTo_share (PosShare.mem_left_op_right q)).1 (pointsTo_share (PosShare.mem_left_op_right q)).2
  rw [e fullShare, e fullShare.left, e fullShare.right]
  show iprop(((ℓ ↦[S]{lend 0} f) ∗ (ℓ ↦[S]{lend 1} f)) ∗ (ℓ ↦[S]{lend 2} f) ∗ (ℓ ↦[S]{kept} f)) = _
  refine BI.Entails.antisymm ?_ ?_
  · show _ ⊢ (_ : sProp 𝕄)
    iintro ⟨⟨H0, H1⟩, H2, H3⟩
    isplitl [H0]; · iexact H0
    isplitl [H1]; · iexact H1
    isplitl [H2] <;> iassumption
  · show _ ⊢ (_ : sProp 𝕄)
    iintro ⟨H0, H1, H2, H3⟩
    isplitl [H0 H1]
    · isplitl [H0] <;> iassumption
    isplitl [H2] <;> iassumption

theorem lend_out (p : Fin 4) : iprop(subD m c p 0 0 ∗ subD m c p 0 1 ∗ subD m c p 1 0 ∗ subD m c p 1 1)
    ⊢ iprop(lent m c p 0 ∗ lent m c p 1 ∗ lent m c p 2 ∗ keptP m c p) := by
  rw [← subs_eq, shares_eq]; exact BI.Entails.refl _
theorem lend_back (p : Fin 4) : iprop(lent m c p 0 ∗ lent m c p 1 ∗ lent m c p 2 ∗ keptP m c p)
    ⊢ iprop(cmL c ↦[cR p 0]{fullShare} commC m c : sProp 𝕄) := by
  rw [shares_eq]; exact BI.Entails.refl _

theorem op_comm {q : PosShare TreeShare} (p k' : Fin 4) (s : Fin 2) {off inb hl} (hoff : off = ![p.val, k'.val, s.val, 0, 0])
    {k : Vec F S1x1x1x4x128 .f32 → Prog (TpuEff nD τ sig (Elt F) Λ₀ .tc) α} {Q : α → sProp 𝕄} :
    iprop(cmL c ↦[cR p k']{q} commC m c : sProp 𝕄) ⊢ iprop(((cmL c ↦[cR p k']{q} commC m c) -∗ run c (k (commV m c p k' s)) Q) -∗ run c
      (.op (.load cmM (Rect.unit (s := S4x4x2x4x128) off S1x1x1x4x128.size inb).toLoadRect hl) k) Q) := by
  iintro Hs Hk
  iapply (wp_load_rect 𝒱₀ (c : Thread nD τ) none Set.univ (m := cmM) (S := cR p k')
    (r := Rect.unit (s := S4x4x2x4x128) off S1x1x1x4x128.size inb)
    (by rw [View.set_slice_whole cc0_scratch4]; exact vSet p k' s hoff)) $$ Hs
  iintro Hs
  rw [read_comm m c p k' s hoff]
  iapply Hk; iexact Hs

theorem op_kept (p : Fin 4) (s : Fin 2) {off inb hl} (hoff : off = ![p.val, (0 : Fin 4).val, s.val, 0, 0])
    {k : Vec F S1x1x1x4x128 .f32 → Prog (TpuEff nD τ sig (Elt F) Λ₀ .tc) α} {Q : α → sProp 𝕄} :
    keptP m c p ⊢ iprop((keptP m c p -∗ run c (k (commV m c p 0 s)) Q) -∗ run c
      (.op (.load cmM (Rect.unit (s := S4x4x2x4x128) off S1x1x1x4x128.size inb).toLoadRect hl) k) Q) := op_comm m c p 0 s hoff
theorem op_landed (p : Fin 4) (j : Fin 3) (k' : Fin 4) (hk' : k' = j.succ) (s : Fin 2) {off inb hl} (hoff : off = ![p.val, k'.val, s.val, 0, 0])
    {k : Vec F S1x1x1x4x128 .f32 → Prog (TpuEff nD τ sig (Elt F) Λ₀ .tc) α} {Q : α → sProp 𝕄} :
    landed m c p j ⊢ iprop((landed m c p j -∗ run c (k (commV m c p k' s)) Q) -∗ run c
      (.op (.load cmM (Rect.unit (s := S4x4x2x4x128) off S1x1x1x4x128.size inb).toLoadRect hl) k) Q) := by
  subst hk'; exact op_comm m c p j.succ s hoff

def sendRes (p : Fin 4) (j : Fin 3) : sProp 𝕄 :=
  iprop(dutyTok ER (sendCell c p j) 0 0 ∗ dutyTok ER (recvCell (peer c j) p j) 0 0)
def sendFl (p : Fin 4) (j : Fin 3) : sProp 𝕄 := cred (tallyAt (sendCell c p j) () NN)

theorem op_send (p : Fin 4) (j : Fin 3) (n : Dev nD) (hn : n = peer c j) {off inb off' inb' hsc} {sS sV : DmaSem sig} {h1 h2 h3}
    (hoff : off = ![p.val, (0 : Fin 4).val, 0, 0, 0]) (hoff' : off' = ![p.val, j.succ.val, 0, 0, 0]) (hS : sS = sendS p j) (hV : sV = recvS p j)
    (l' l) (hl : l' = (recvCell (peer c j) p j, NN) :: l) {k : PUnit → Prog (TpuEff nD τ sig (Elt F) Λ₀ .tc) α} {Q : α → sProp 𝕄} :
    Env m K ⊢ iprop(sendRes c p j -∗ lent m c p j -∗ land (peer c j) p j -∗ Ow c l'
      -∗ ((sendFl c p j ∗ Ow c l) -∗ run c (k ⟨⟩) Q) -∗ run c
      (.op (.enqueueDma (slot off inb) (.remote (Dev.tc n : Thread nD τ) (slot off' inb') (.dma sS) hsc) (.dma sV) h1 h2 h3) k) Q) := by
  subst hn hS hV hl
  unfold sendRes lent land Ow sendFl
  iintro #HE ⟨HtS, HtV⟩ Hl ⟨%fd, Hd⟩ ⟨%W, HO⟩ Hk
  have eS := slot_set p 0 (inb := inb) hoff
  have eD := slot_set p j.succ (inb := inb') hoff'
  ihave Hl' := (Entails.of_eq (show (cmL c ↦[cR p 0]{lend j} commC m c : sProp 𝕄)
    = ((slot off inb).view.loc (c : Thread nD τ) ↦[(slot off inb).view.set]{lend j} commC m c) by rw [eS])) $$ Hl
  ihave Hd' := (Entails.of_eq (show (cmL (peer c j) ↦[cR p j.succ]{fullShare} fd : sProp 𝕄)
    = ((slot off' inb').view.loc (peer c j : Thread nD τ) ↦[(slot off' inb').view.set]{fullShare} fd) by rw [eD])) $$ Hd
  have hN : (slot off' inb').view.amount (.dma (recvS p j)) = NN := rfl
  have hpay₁ : ((slot off inb).view.loc (c : Thread nD τ) ↦[(slot off inb).view.set]{lend j} commC m c : sProp 𝕄)
      ⊢ (Rd m).payload (sendCell c p j) 0 0 := by
    rw [payload_send, eS]; exact BI.Entails.refl _
  have hpay₂ : ((slot off' inb').view.loc (peer c j : Thread nD τ) ↦[(slot off' inb').view.set]{fullShare}
      ((slot off' inb').view.write (Elt F) fd ((slot off inb).view.read (Elt F) (commC m c)) Finset.univ) : sProp 𝕄)
      ⊢ (Rd m).payload (recvCell (peer c j) p j) 0 0 := by
    rw [payload_recv, eD]; unfold landed
    exact Entails.of_eq (pointsTo_congr (ℓ := cmL (peer c j)) (q := fullShare) fun i hi => slot_write m c p j hoff hoff' fd i hi)
  have hd₁ : (0 : Fin 3) ∈ (Rd m).duties (sendCell c p j) 0 := by rw [duties_send]; exact Finset.mem_singleton_self _
  have hd₂ : (0 : Fin 3) ∈ (Rd m).duties (recvCell (peer c j) p j) 0 := by rw [duties_recv]; exact Finset.mem_singleton_self _
  iapply (Rounds.wp_send_pointsTo 𝒱₀ ER (Rd m) (c : Thread nD τ) none (c' := (peer c j : Thread nD τ)) (src := slot off inb) (dst := slot off' inb')
    (sS := .dma (sendS p j)) (sem := .dma (recvS p j)) (κ₁ := K (c, some (false, p, j))) (κ₂ := K (peer c j, some (true, p, j)))
    (r₁ := 0) (r₂ := 0) (d₁ := 0) (d₂ := 0) (fd := fd) hd₁ hd₂ () () NN hN (amount_send m c p j 0) (amount_recv m (peer c j) p j 0)
    (debt l) rfl (W := W) hpay₁ hpay₂) $$ [Hl' Hd' HO HtS HtV]
  · isplitr; · iapply (env_inv m K (c, some (false, p, j))); iexact HE
    isplitr; · iapply (env_inv m K (peer c j, some (true, p, j))); iexact HE
    isplitl [Hl']; · iexact Hl'
    isplitl [Hd']; · iexact Hd'
    isplitl [HO]; · iexact HO
    isplitl [HtS]; · iexact HtS
    isplitr; · iapply (env_reached m K (c, some (false, p, j))); iexact HE
    isplitl [HtV]; · iexact HtV
    iapply (env_reached m K (peer c j, some (true, p, j))); iexact HE
  iintro ⟨Hc, HO⟩
  iapply Hk
  isplitl [Hc]; · iexact Hc
  iexists W; iexact HO

def posS (p : Fin 4) (j : Fin 3) (r : ℕ) : sProp 𝕄 := atPos ER (sendCell c p j) r ∅ 0
def posV (p : Fin 4) (j : Fin 3) (r : ℕ) : sProp 𝕄 := atPos ER (recvCell c p j) r ∅ 0
def posB (r : ℕ) : sProp 𝕄 := atPos ER (barCell c) r ∅ 0

theorem op_send_wait (p : Fin 4) (j : Fin 3) {src : Memref sig .tc .vmem S2x4x128 .f32} {off' inb' h1 h2} {sS : DmaSem sig} (hS : sS = sendS p j)
    {k : PUnit → Prog (TpuEff nD τ sig (Elt F) Λ₀ .tc) α} {Q : α → sProp 𝕄} :
    Env m K ⊢ iprop(sendFl c p j -∗ posS c p j 0 -∗ Ow c []
      -∗ ((lent m c p j ∗ posS c p j 1 ∗ Ow c []) -∗ run c (k ⟨⟩) Q) -∗ run c
      (.op (.waitDma2 sS src (slot off' inb') h1 h2) k) Q) := by
  subst hS
  unfold sendFl posS Ow
  iintro #HE Hc Hp ⟨%W, HO⟩ Hk
  iapply (Rounds.wp_wait_rest_token 𝒱₀ ER (Rd m) (c : Thread nD τ) none (κ := K (c, some (false, p, j)))
      (wpE_waitDma2_eq 𝒱₀ (c : Thread nD τ) none Set.univ (src := src) (dst := slot off' inb') (hsrc := h1) (hdst := h2)) (Set.mem_univ _) () (O := debt []) (W := W) (R := 0) (m := 0) (T := ∅)
      (by rw [Nat.zero_add]; exact (expect_send m c p j).symm)) $$ [Hc HO Hp]
  · isplitr; · iapply (env_inv m K (c, some (false, p, j))); iexact HE
    isplitl [Hc]; · iexact Hc
    isplitl [HO]; · iexact HO
    isplitr; · iapply (env_mayWait m K c (.dma (sendS p j)) 0 [] (by rw [role_send]; exact Nat.le_refl _) (high_nil 0)); iexact HE
    iexact Hp
  iintro ⟨HO, Hp, -, Hpay⟩
  ihave Hl := (Entails.of_eq (rest_send m c p j)) $$ Hpay
  iapply Hk
  isplitl [Hl]; · iexact Hl
  isplitl [Hp]; · iexact Hp
  iexists _; iexact HO

def recvRes (p : Fin 4) (j : Fin 3) : sProp 𝕄 := iprop(cred (tallyAt (recvCell c p j) () NN) ∗ posV c p j 0)

theorem op_recv_wait (p : Fin 4) (j : Fin 3) {src : Memref sig .tc .vmem S2x4x128 .f32} {off' inb' h1 h2} {sV : DmaSem sig} (hV : sV = recvS p j)
    {k : PUnit → Prog (TpuEff nD τ sig (Elt F) Λ₀ .tc) α} {Q : α → sProp 𝕄} :
    Env m K ⊢ iprop(recvRes c p j -∗ Ow c []
      -∗ ((landed m c p j ∗ posV c p j 1 ∗ Ow c []) -∗ run c (k ⟨⟩) Q) -∗ run c
      (.op (.waitDma2 sV src (slot off' inb') h1 h2) k) Q) := by
  subst hV
  unfold recvRes posV Ow
  iintro #HE ⟨Hc, Hp⟩ ⟨%W, HO⟩ Hk
  iapply (Rounds.wp_wait_rest_token 𝒱₀ ER (Rd m) (c : Thread nD τ) none (κ := K (c, some (true, p, j)))
      (wpE_waitDma2_eq 𝒱₀ (c : Thread nD τ) none Set.univ (src := src) (dst := slot off' inb') (hsrc := h1) (hdst := h2)) (Set.mem_univ _) () (O := debt []) (W := W) (R := 0) (m := 0) (T := ∅)
      (by rw [Nat.zero_add]; exact (expect_recv m c p j).symm)) $$ [Hc HO Hp]
  · isplitr; · iapply (env_inv m K (c, some (true, p, j))); iexact HE
    isplitl [Hc]; · iexact Hc
    isplitl [HO]; · iexact HO
    isplitr; · iapply (env_mayWait m K c (.dma (recvS p j)) 2 [] (by rw [role_recv]; exact Nat.le_refl _) (high_nil 2)); iexact HE
    iexact Hp
  iintro ⟨HO, Hp, -, Hpay⟩
  ihave Hl := (Entails.of_eq (rest_recv m c p j)) $$ Hpay
  iapply Hk
  isplitl [Hl]; · iexact Hl
  isplitl [Hp]; · iexact Hp
  iexists _; iexact HO

/-! ## The barrier -/

theorem op_signal (j : Fin 3) (n : Dev nD) (hn : n = peer c j) {sm : Sem sig} (hs : sm = barS) {x : ℕ} (hx : x = 1) (l' l) (hl : l' = (barCell (peer c j), 1) :: l)
    {k : PUnit → Prog (TpuEff nD τ sig (Elt F) Λ₀ .tc) α} {Q : α → sProp 𝕄} :
    Env m K ⊢ iprop(dutyTok ER (barCell (peer c j)) 0 j.rev -∗ (land c 0 j.rev ∗ land c 1 j.rev ∗ land c 2 j.rev ∗ land c 3 j.rev)
      -∗ Ow c l' -∗ (Ow c l -∗ run c (k ⟨⟩) Q) -∗ run c
      (.op (.semSignal (Dev.tc n : Thread nD τ) sm x) k) Q) := by
  subst hn hs hx hl
  unfold Ow
  iintro #HE Ht Hl ⟨%W, HO⟩ Hk
  iapply (Rounds.wp_signal 𝒱₀ ER (Rd m) (c : Thread nD τ) none (dst := (peer c j : Thread nD τ)) (κ := K (peer c j, none))
      (d := j.rev) (by rw [duties_bar]; exact Finset.mem_univ _) (amount_bar m (peer c j) j.rev) () (debt l) rfl) $$ [HO Ht Hl]
  · isplitr; · iapply (env_inv m K (peer c j, none)); iexact HE
    isplitl [HO]; · iexact HO
    isplitl [Ht]; · iexact Ht
    isplitl [Hl]
    · rw [payload_bar]; unfold barPay; rw [peer_rev]; iexact Hl
    iapply (env_reached m K (peer c j, none)); iexact HE
  iintro HO
  iapply Hk
  iexists W; iexact HO

theorem op_bar_wait {sm : Sem sig} (hs : sm = barS) {x : ℕ} (hx : x = 3) (l) (hl : High 1 l)
    {k : PUnit → Prog (TpuEff nD τ sig (Elt F) Λ₀ .tc) α} {Q : α → sProp 𝕄} :
    Env m K ⊢ iprop(cred (tallyAt (barCell c) () 3) -∗ posB c 0 -∗ Ow c l
      -∗ ((barPay c 0 ∗ barPay c 1 ∗ barPay c 2 ∗ posB c 1 ∗ Ow c l) -∗ run c (k ⟨⟩) Q) -∗ run c
      (.op (.semWait sm x) k) Q) := by
  subst hs hx
  unfold posB Ow
  iintro #HE Hc Hp ⟨%W, HO⟩ Hk
  iapply (Rounds.wp_wait_rest_token 𝒱₀ ER (Rd m) (c : Thread nD τ) none (κ := K (c, none))
      (wpE_semWait_eq 𝒱₀ (c : Thread nD τ) none Set.univ) (Set.mem_univ _) () (O := debt l) (W := W) (R := 0) (m := 0) (T := ∅)
      (k' := 3) (by rw [Nat.zero_add]; exact (expect_bar m c).symm)) $$ [Hc HO Hp]
  · isplitr; · iapply (env_inv m K (c, none)); iexact HE
    isplitl [Hc]; · iexact Hc
    isplitl [HO]; · iexact HO
    isplitr; · iapply (env_mayWait m K c (.reg barS) 1 l (by rw [role_bar]; exact Nat.le_refl _) hl); iexact HE
    iexact Hp
  iintro ⟨HO, Hp, -, Hpay⟩
  ihave Hq := (Entails.of_eq (rest_bar m c)) $$ Hpay
  icases Hq with ⟨H0, H1, H2⟩
  iapply Hk
  isplitl [H0]; · iexact H0
  isplitl [H1]; · iexact H1
  isplitl [H2]; · iexact H2
  isplitl [Hp]; · iexact Hp
  iexists _; iexact HO

/-! ## The finished rows -/

def NO : ℕ := (oM.slice (Rect.unit (s := S2048x1024) ![0, 0] S512x1024.size inb_S2048x1024_S512x1024_0_0) (fun _ => rfl)).view.dmaCredit
theorem NO_pos : 0 < NO := View.dmaCredit_pos _ (by decide)

def ovRes (p : Fin 4) : sProp 𝕄 :=
  iprop((∃ f : Buf (Elt F) (ovL c), ovL c ↦[oR p]{fullShare} f) ∗ (∃ f : Buf (Elt F) (oL c), oL c ↦[oR p]{fullShare} f)
    ∗ semVal ((c : Thread nD τ), .dma (outS p)) 0)
def ovRdy (p : Fin 4) : sProp 𝕄 :=
  iprop((ovL c ↦[oR p]{fullShare} outC m c) ∗ (∃ f : Buf (Elt F) (oL c), oL c ↦[oR p]{fullShare} f) ∗ semVal ((c : Thread nD τ), .dma (outS p)) 0)
def outFl (p : Fin 4) : sProp 𝕄 :=
  Transfers.Flight EC (c : Thread nD τ) (.dma (outS p)) () NO iprop((oL c ↦[oR p]{fullShare} outC m c) ∗ (ovL c ↦[oR p]{fullShare} outC m c))
def outDone (p : Fin 4) : sProp 𝕄 :=
  iprop((oL c ↦[oR p]{fullShare} outC m c) ∗ (ovL c ↦[oR p]{fullShare} outC m c) ∗ semVal ((c : Thread nD τ), .dma (outS p)) 0)

theorem op_ov_load (p : Fin 4) {off inb hl} (hoff : off = ![512 * p.val, 0])
    {k : Vec F S512x1024 .bf16 → Prog (TpuEff nD τ sig (Elt F) Λ₀ .tc) α} (k' : Prog (TpuEff nD τ sig (Elt F) Λ₀ .tc) α) (hk : ∀ v, k v = k') {Q : α → sProp 𝕄} :
    ovRes c p ⊢ iprop((ovRes c p -∗ run c k' Q) -∗ run c
      (.op (.load ovM (Rect.unit (s := S2048x1024) off S512x1024.size inb).toLoadRect hl) k) Q) := by
  unfold ovRes
  iintro ⟨⟨%f, Hs⟩, Ho, Hv⟩ Hk
  iapply (wp_load_rect 𝒱₀ (c : Thread nD τ) none Set.univ (m := ovM) (S := oR p)
    (r := Rect.unit (s := S2048x1024) off S512x1024.size inb)
    (by rw [View.set_slice_whole cc0_scratch3, oSet p hoff])) $$ Hs
  iintro Hs
  rw [hk]
  iapply Hk
  isplitl [Hs]; · iexists f; iexact Hs
  isplitl [Ho] <;> iassumption

theorem op_ov_store (p : Fin 4) {off inb h1 h2} {w : FVec F S512x1024 .bf16} (hoff : off = ![512 * p.val, 0]) (hw : w = outBlk m c p)
    {k : PUnit → Prog (TpuEff nD τ sig (Elt F) Λ₀ .tc) α} {Q : α → sProp 𝕄} :
    ovRes c p ⊢ iprop((ovRdy m c p -∗ run c (k ⟨⟩) Q) -∗ run c
      (.op (.store ovM (Rect.unit (s := S2048x1024) off S512x1024.size inb) w Finset.univ h1 h2) k) Q) := by
  unfold ovRes ovRdy
  subst hw
  iintro ⟨⟨%f, Hs⟩, Ho, Hv⟩ Hk
  iapply (wp_store 𝒱₀ (c : Thread nD τ) none Set.univ (m := ovM) (S := oR p)
    (r := Rect.unit (s := S2048x1024) off S512x1024.size inb) (Mk := Finset.univ)
    (by rw [View.setOn_univ, View.set_slice_whole cc0_scratch3, oSet p hoff])) $$ Hs
  iintro Hs
  iapply Hk
  isplitl [Hs]
  · ihave Hg := (Entails.of_eq (pointsTo_congr (ℓ := ovL c) (q := fullShare) fun i hi => ov_write m c p (inb := inb) hoff f i hi)) $$ Hs
    iexact Hg
  isplitl [Ho] <;> iassumption

theorem op_out (p : Fin 4) {off inb} {sm : DmaSem sig} {h1 h2 h3} (hoff : off = ![512 * p.val, 0]) (hsm : sm = outS p)
    {k : PUnit → Prog (TpuEff nD τ sig (Elt F) Λ₀ .tc) α} {Q : α → sProp 𝕄} :
    ovRdy m c p ⊢ iprop((outFl m c p -∗ run c (k ⟨⟩) Q) -∗ run c
      (.op (.enqueueDma (ovM.slice (Rect.unit (s := S2048x1024) off S512x1024.size inb) (fun _ => rfl))
        (.here (oM.slice (Rect.unit (s := S2048x1024) off S512x1024.size inb) (fun _ => rfl))) (.dma sm) h1 h2 h3) k) Q) := by
  subst hsm
  unfold ovRdy
  iintro ⟨Hx, ⟨%f, Hv⟩, Hs⟩ Hk
  have eS : (ovM.slice (Rect.unit (s := S2048x1024) off S512x1024.size inb) (fun _ => rfl)).view.set = oR p :=
    (View.set_slice_whole cc0_scratch3 _).trans (oSet p hoff)
  have eD : (oM.slice (Rect.unit (s := S2048x1024) off S512x1024.size inb) (fun _ => rfl)).view.set = oR p :=
    (View.set_slice_whole main_v1 _).trans (oSet p hoff)
  ihave Hx' := (Entails.of_eq (show (ovL c ↦[oR p]{fullShare} outC m c : sProp 𝕄)
    = ((ovM.slice (Rect.unit (s := S2048x1024) off S512x1024.size inb) (fun _ => rfl)).view.loc (c : Thread nD τ)
        ↦[(ovM.slice (Rect.unit (s := S2048x1024) off S512x1024.size inb) (fun _ => rfl)).view.set]{fullShare} outC m c) by rw [eS])) $$ Hx
  iapply (Transfers.wp_dmaLocal EC 𝒱₀ (c : Thread nD τ) none (src := ovM.slice (Rect.unit (s := S2048x1024) off S512x1024.size inb) (fun _ => rfl)) (dst := oM.slice (Rect.unit (s := S2048x1024) off S512x1024.size inb) (fun _ => rfl)) (Sd := oR p) () NO rfl NO_pos eD.subset) $$ [Hx' Hv Hs]
  · isplitl [Hx']; · iexact Hx'
    isplitl [Hv]; · iexact Hv
    iexact Hs
  iintro Hf
  iapply Hk
  unfold outFl
  rw [eS]
  ihave Hg := (Entails.of_eq (congrArg (fun P => (Transfers.Flight EC (c : Thread nD τ) (.dma (outS p)) () NO iprop(P ∗ (ovL c ↦[oR p]{fullShare} outC m c)) : sProp 𝕄))
    (pointsTo_congr (ℓ := oL c) (q := fullShare) fun i hi => out_write m c p (inb := inb) hoff f i hi))) $$ Hf
  iexact Hg

theorem op_out_wait (p : Fin 4) {off inb h1 h2} {sm : DmaSem sig} (hsm : sm = outS p) {k : PUnit → Prog (TpuEff nD τ sig (Elt F) Λ₀ .tc) α} {Q : α → sProp 𝕄} :
    Env m K ⊢ iprop(outFl m c p -∗ Ow c [] -∗ ((outDone m c p ∗ Ow c []) -∗ run c (k ⟨⟩) Q) -∗ run c
      (.op (.waitDma2 sm (ovM.slice (Rect.unit (s := S2048x1024) off S512x1024.size inb) (fun _ => rfl))
        (oM.slice (Rect.unit (s := S2048x1024) off S512x1024.size inb) (fun _ => rfl)) h1 h2) k) Q) := by
  subst hsm
  unfold outFl Ow outDone
  iintro HE Hf ⟨%W, HO⟩ Hk
  iapply (Transfers.wp_waitLocalO EC 𝒱₀ (c : Thread nD τ) none (srcw := ovM.slice (Rect.unit (s := S2048x1024) off S512x1024.size inb) (fun _ => rfl)) (dstw := oM.slice (Rect.unit (s := S2048x1024) off S512x1024.size inb) (fun _ => rfl)) (hsrc := h1) (hdst := h2) () (N := NO) rfl) $$ [HE Hf HO]
  · isplitl [Hf]; · iexact Hf
    isplitl [HO]; · iexact HO
    iapply (env_mayWait m K c (.dma (outS p)) 0 [] (by rw [role_out]; exact Nat.le_refl _) (high_nil 0)); iexact HE
  iintro ⟨⟨Hv, Hx⟩, Hs, HO⟩
  iapply Hk
  isplitl [Hv Hx Hs]
  · isplitl [Hv]; · iexact Hv
    isplitl [Hx] <;> iassumption
  iexists _; iexact HO

/-! ## The two parameter rows -/

def NG : ℕ := gvM.view.dmaCredit
def NB : ℕ := bvM.view.dmaCredit
theorem NB_pos : 0 < NB := View.dmaCredit_pos _ (by decide)
theorem NG_pos : 0 < NG := View.dmaCredit_pos _ (by decide)

def gRes : sProp 𝕄 :=
  iprop((gL c ↦{fullShare} gC m c) ∗ (∃ f : Buf (Elt F) (gvL c), gvL c ↦{fullShare} f) ∗ semVal ((c : Thread nD τ), .dma (gbS 0)) 0)
def gFl : sProp 𝕄 :=
  Transfers.Flight EC (c : Thread nD τ) (.dma (gbS 0)) () NG iprop((gvL c ↦{fullShare} gC m c) ∗ (gL c ↦{fullShare} gC m c))
def gDone : sProp 𝕄 :=
  iprop((gvL c ↦{fullShare} gC m c) ∗ (gL c ↦{fullShare} gC m c) ∗ semVal ((c : Thread nD τ), .dma (gbS 0)) 0)
def bRes : sProp 𝕄 :=
  iprop((bL c ↦{fullShare} bC m c) ∗ (∃ f : Buf (Elt F) (bvL c), bvL c ↦{fullShare} f) ∗ semVal ((c : Thread nD τ), .dma (gbS 1)) 0)
def bFl : sProp 𝕄 :=
  Transfers.Flight EC (c : Thread nD τ) (.dma (gbS 1)) () NB iprop((bvL c ↦{fullShare} bC m c) ∗ (bL c ↦{fullShare} bC m c))
def bDone : sProp 𝕄 :=
  iprop((bvL c ↦{fullShare} bC m c) ∗ (bL c ↦{fullShare} bC m c) ∗ semVal ((c : Thread nD τ), .dma (gbS 1)) 0)

theorem op_g {sm : DmaSem sig} {h1 h2 h3} (hsm : sm = gbS 0) {k : PUnit → Prog (TpuEff nD τ sig (Elt F) Λ₀ .tc) α} {Q : α → sProp 𝕄} :
    gRes m c ⊢ iprop((gFl m c -∗ run c (k ⟨⟩) Q) -∗ run c (.op (.enqueueDma gM (.here gvM) (.dma sm) h1 h2 h3) k) Q) := by
  subst hsm
  unfold gRes gFl
  iintro ⟨Hx, ⟨%f, Hv⟩, Hs⟩ Hk
  have eS : gM.view.set = Finset.univ := View.set_whole main_arg1
  ihave Hx' := (Entails.of_eq (show (gL c ↦{fullShare} gC m c : sProp 𝕄)
    = (gM.view.loc (c : Thread nD τ) ↦[gM.view.set]{fullShare} gC m c) by rw [eS])) $$ Hx
  iapply (Transfers.wp_dmaLocal EC 𝒱₀ (c : Thread nD τ) none (src := gM) (dst := gvM) (Sd := Finset.univ) () NG rfl NG_pos (Finset.subset_univ _)) $$ [Hx' Hv Hs]
  · isplitl [Hx']; · iexact Hx'
    isplitl [Hv]; · iexact Hv
    iexact Hs
  iintro Hf
  iapply Hk
  rw [eS]
  ihave Hg := (Entails.of_eq (congrArg (fun P => (Transfers.Flight EC (c : Thread nD τ) (.dma (gbS 0)) () NG iprop(P ∗ (gL c ↦{fullShare} gC m c)) : sProp 𝕄))
    (congrArg (fun g => (gvL c ↦{fullShare} g : sProp 𝕄))
      (show gvM.view.write (Elt F) f (gM.view.read (Elt F) (gC m c)) Finset.univ = gC m c from View.write_whole_univ _ _ _)))) $$ Hf
  iexact Hg

theorem op_b {sm : DmaSem sig} {h1 h2 h3} (hsm : sm = gbS 1) {k : PUnit → Prog (TpuEff nD τ sig (Elt F) Λ₀ .tc) α} {Q : α → sProp 𝕄} :
    bRes m c ⊢ iprop((bFl m c -∗ run c (k ⟨⟩) Q) -∗ run c (.op (.enqueueDma bM (.here bvM) (.dma sm) h1 h2 h3) k) Q) := by
  subst hsm
  unfold bRes bFl
  iintro ⟨Hx, ⟨%f, Hv⟩, Hs⟩ Hk
  have eS : bM.view.set = Finset.univ := View.set_whole main_arg2
  ihave Hx' := (Entails.of_eq (show (bL c ↦{fullShare} bC m c : sProp 𝕄)
    = (bM.view.loc (c : Thread nD τ) ↦[bM.view.set]{fullShare} bC m c) by rw [eS])) $$ Hx
  iapply (Transfers.wp_dmaLocal EC 𝒱₀ (c : Thread nD τ) none (src := bM) (dst := bvM) (Sd := Finset.univ) () NB rfl NB_pos (Finset.subset_univ _)) $$ [Hx' Hv Hs]
  · isplitl [Hx']; · iexact Hx'
    isplitl [Hv]; · iexact Hv
    iexact Hs
  iintro Hf
  iapply Hk
  rw [eS]
  ihave Hg := (Entails.of_eq (congrArg (fun P => (Transfers.Flight EC (c : Thread nD τ) (.dma (gbS 1)) () NB iprop(P ∗ (bL c ↦{fullShare} bC m c)) : sProp 𝕄))
    (congrArg (fun g => (bvL c ↦{fullShare} g : sProp 𝕄))
      (show bvM.view.write (Elt F) f (bM.view.read (Elt F) (bC m c)) Finset.univ = bC m c from View.write_whole_univ _ _ _)))) $$ Hf
  iexact Hg

theorem op_g_wait {h1 h2} {sm : DmaSem sig} (hsm : sm = gbS 0) {k : PUnit → Prog (TpuEff nD τ sig (Elt F) Λ₀ .tc) α} {Q : α → sProp 𝕄} :
    Env m K ⊢ iprop(gFl m c -∗ Ow c [] -∗ ((gDone m c ∗ Ow c []) -∗ run c (k ⟨⟩) Q) -∗ run c (.op (.waitDma2 sm gM gvM h1 h2) k) Q) := by
  subst hsm
  unfold gFl Ow gDone
  iintro HE Hf ⟨%W, HO⟩ Hk
  iapply (Transfers.wp_waitLocalO EC 𝒱₀ (c : Thread nD τ) none (srcw := gM) (dstw := gvM) (hsrc := h1) (hdst := h2) () (N := NG) rfl) $$ [HE Hf HO]
  · isplitl [Hf]; · iexact Hf
    isplitl [HO]; · iexact HO
    iapply (env_mayWait m K c (.dma (gbS 0)) 0 [] (by rw [role_gb]; exact Nat.le_refl _) (high_nil 0)); iexact HE
  iintro ⟨⟨Hv, Hx⟩, Hs, HO⟩
  iapply Hk
  isplitl [Hv Hx Hs]
  · isplitl [Hv]; · iexact Hv
    isplitl [Hx] <;> iassumption
  iexists _; iexact HO

theorem op_b_wait {h1 h2} {sm : DmaSem sig} (hsm : sm = gbS 1) {k : PUnit → Prog (TpuEff nD τ sig (Elt F) Λ₀ .tc) α} {Q : α → sProp 𝕄} :
    Env m K ⊢ iprop(bFl m c -∗ Ow c [] -∗ ((bDone m c ∗ Ow c []) -∗ run c (k ⟨⟩) Q) -∗ run c (.op (.waitDma2 sm bM bvM h1 h2) k) Q) := by
  subst hsm
  unfold bFl Ow bDone
  iintro HE Hf ⟨%W, HO⟩ Hk
  iapply (Transfers.wp_waitLocalO EC 𝒱₀ (c : Thread nD τ) none (srcw := bM) (dstw := bvM) (hsrc := h1) (hdst := h2) () (N := NB) rfl) $$ [HE Hf HO]
  · isplitl [Hf]; · iexact Hf
    isplitl [HO]; · iexact HO
    iapply (env_mayWait m K c (.dma (gbS 1)) 0 [] (by rw [role_gb]; exact Nat.le_refl _) (high_nil 0)); iexact HE
  iintro ⟨⟨Hv, Hx⟩, Hs, HO⟩
  iapply Hk
  isplitl [Hv Hx Hs]
  · isplitl [Hv]; · iexact Hv
    isplitl [Hx] <;> iassumption
  iexists _; iexact HO

theorem op_g_load {off inb hl} (hoff : off = ![0, 0]) {k : Vec F S1x1024 .f32 → Prog (TpuEff nD τ sig (Elt F) Λ₀ .tc) α} {Q : α → sProp 𝕄} :
    gDone m c ⊢ iprop((gDone m c -∗ run c (k (gC m c)) Q) -∗ run c
      (.op (.load gvM (Rect.unit (s := S1x1024) off S1x1024.size inb).toLoadRect hl) k) Q) := by
  unfold gDone
  iintro ⟨Hv, Hx, Hs⟩ Hk
  iapply (wp_load_rect 𝒱₀ (c : Thread nD τ) none Set.univ (m := gvM) (S := Finset.univ)
    (r := Rect.unit (s := S1x1024) off S1x1024.size inb) (Finset.subset_univ _)) $$ Hv
  iintro Hv
  rw [show (gvM.access (Rect.unit (s := S1x1024) off S1x1024.size inb)).read (Elt F) (gC m c) = gC m c from
    Memref.readAt_unit_zero (Elt F) cc0_scratch1 (hoff.trans (funext fun a => by fin_cases a <;> rfl)) _ _]
  iapply Hk
  isplitl [Hv]; · iexact Hv
  isplitl [Hx] <;> iassumption

theorem op_b_load {off inb hl} (hoff : off = ![0, 0]) {k : Vec F S1x1024 .f32 → Prog (TpuEff nD τ sig (Elt F) Λ₀ .tc) α} {Q : α → sProp 𝕄} :
    bDone m c ⊢ iprop((bDone m c -∗ run c (k (bC m c)) Q) -∗ run c
      (.op (.load bvM (Rect.unit (s := S1x1024) off S1x1024.size inb).toLoadRect hl) k) Q) := by
  unfold bDone
  iintro ⟨Hv, Hx, Hs⟩ Hk
  iapply (wp_load_rect 𝒱₀ (c : Thread nD τ) none Set.univ (m := bvM) (S := Finset.univ)
    (r := Rect.unit (s := S1x1024) off S1x1024.size inb) (Finset.subset_univ _)) $$ Hv
  iintro Hv
  rw [show (bvM.access (Rect.unit (s := S1x1024) off S1x1024.size inb)).read (Elt F) (bC m c) = bC m c from
    Memref.readAt_unit_zero (Elt F) cc0_scratch2 (hoff.trans (funext fun a => by fin_cases a <;> rfl)) _ _]
  iapply Hk
  isplitl [Hv]; · iexact Hv
  isplitl [Hx] <;> iassumption

end Cert.NormProof
-- ==== Proof.BodyA.lean ====
/-
The body's first half, part by part: the loads, the statistics, the barrier and the sends.
-/
module

public import proofs.«01_k».proof.Proof.Ops

@[expose] public section

set_option maxRecDepth 65536

noncomputable section

namespace Cert.NormProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CIx → ℕ) (c : Dev nD)

theorem dev1_bar (c : Dev nD) : (⟨k0_dev1 c, k0_dev1_lt c⟩ : Dev nD) = peer c 0 := by revert c; decide
theorem dev2_bar (c : Dev nD) : (⟨k0_dev2 c, k0_dev2_lt c⟩ : Dev nD) = peer c 1 := by revert c; decide
theorem dev3_bar (c : Dev nD) : (⟨k0_dev3 c, k0_dev3_lt c⟩ : Dev nD) = peer c 2 := by revert c; decide
theorem dev4_peer (c : Dev nD) : (⟨k0_dev4 c, k0_dev4_lt c⟩ : Dev nD) = peer c 0 := by revert c; decide
theorem dev5_peer (c : Dev nD) : (⟨k0_dev5 c, k0_dev5_lt c⟩ : Dev nD) = peer c 1 := by revert c; decide
theorem dev6_peer (c : Dev nD) : (⟨k0_dev6 c, k0_dev6_lt c⟩ : Dev nD) = peer c 2 := by revert c; decide
theorem dev7_peer (c : Dev nD) : (⟨k0_dev7 c, k0_dev7_lt c⟩ : Dev nD) = peer c 0 := by revert c; decide
theorem dev8_peer (c : Dev nD) : (⟨k0_dev8 c, k0_dev8_lt c⟩ : Dev nD) = peer c 1 := by revert c; decide
theorem dev9_peer (c : Dev nD) : (⟨k0_dev9 c, k0_dev9_lt c⟩ : Dev nD) = peer c 2 := by revert c; decide
theorem dev10_peer (c : Dev nD) : (⟨k0_dev10 c, k0_dev10_lt c⟩ : Dev nD) = peer c 0 := by revert c; decide
theorem dev11_peer (c : Dev nD) : (⟨k0_dev11 c, k0_dev11_lt c⟩ : Dev nD) = peer c 1 := by revert c; decide
theorem dev12_peer (c : Dev nD) : (⟨k0_dev12 c, k0_dev12_lt c⟩ : Dev nD) = peer c 2 := by revert c; decide
theorem dev13_peer (c : Dev nD) : (⟨k0_dev13 c, k0_dev13_lt c⟩ : Dev nD) = peer c 0 := by revert c; decide
theorem dev14_peer (c : Dev nD) : (⟨k0_dev14 c, k0_dev14_lt c⟩ : Dev nD) = peer c 1 := by revert c; decide
theorem dev15_peer (c : Dev nD) : (⟨k0_dev15 c, k0_dev15_lt c⟩ : Dev nD) = peer c 2 := by revert c; decide

theorem high_bill (n : ℕ) : High 0 ((bill c).drop n) := by
  have h : High 0 (bill c) := by
    unfold bill
    refine high_bar _ _ (high_bar _ _ (high_bar _ _ ?_))
    repeat' refine high_recv _ _ _ (by decide) _ ?_
    exact high_nil 0
  exact fun x hx => h x (List.mem_of_mem_drop hx)
theorem high_bill_recv : High 1 ((bill c).drop 3) := by
  show High 1 (List.drop 3 _)
  unfold bill
  repeat' refine high_recv _ _ _ (by decide) _ ?_
  exact high_nil 1

theorem part1_run   {Ψ} :
    Env m K ⊢ iprop((inRes m c 0) -∗ (inRes m c 1) -∗ (inRes m c 2) -∗ (inRes m c 3) -∗ (inRes m c 4) -∗ ((inFl m c 0 ∗ inFl m c 1 ∗ inFl m c 2 ∗ inFl m c 3 ∗ inFl m c 4) -∗ Ψ (⟨c, (Scalar.remsi (Scalar.divsi (Dev.word c) 1#32) 4#32)⟩))
      -∗ run c (k0_part1 (F := F) xM (Memref.isWhole_whole _) gM (Memref.isWhole_whole _) bM (Memref.isWhole_whole _) oM (Memref.isWhole_whole _) xvM (Memref.isWhole_whole _) gvM (Memref.isWhole_whole _) bvM (Memref.isWhole_whole _) ovM (Memref.isWhole_whole _) cmM (Memref.isWhole_whole _) cc0_scratch5 cc0_scratch6 cc0_scratch7 cc0_scratch8 cc0_scratch9 ) Ψ) := by
  simp only [k0_part1_eq_skeleton]
  unfold k0_part1_skel
  simp only [semSignalWord, semWaitWord, Prog.lift, Prog.bind_op, Prog.bind_ret, Prog.pure_eq_ret, wp_deviceId]
  iintro #HE HI0 HI1 HI2 HI3 HI4 Hk
  iapply (op_in m c 0 rfl rfl) $$ HI0
  iintro HI0
  iapply (op_in m c 1 rfl rfl) $$ HI1
  iintro HI1
  iapply (op_in m c 2 rfl rfl) $$ HI2
  iintro HI2
  iapply (op_in m c 3 rfl rfl) $$ HI3
  iintro HI3
  iapply (op_in m c 4 rfl rfl) $$ HI4
  iintro HI4
  iapply (run_ret c)
  iapply Hk
  isplitl [HI0]; · iexact HI0
  isplitl [HI1]; · iexact HI1
  isplitl [HI2]; · iexact HI2
  isplitl [HI3]; · iexact HI3
  iexact HI4

theorem part2_run (v2 : BitVec 32)  {Ψ} :
    Env m K ⊢ iprop((inRes m c 5) -∗ (inRes m c 6) -∗ (inRes m c 7) -∗ (gRes m c) -∗ (bRes m c) -∗ (dutyTok ER (barCell (peer c 0)) 0 (Fin.rev 0)) -∗ (land c 0 (Fin.rev 0) ∗ land c 1 (Fin.rev 0) ∗ land c 2 (Fin.rev 0) ∗ land c 3 (Fin.rev 0)) -∗ (Ow c ((bill c).drop 0)) -∗ (dutyTok ER (barCell (peer c 1)) 0 (Fin.rev 1)) -∗ (land c 0 (Fin.rev 1) ∗ land c 1 (Fin.rev 1) ∗ land c 2 (Fin.rev 1) ∗ land c 3 (Fin.rev 1)) -∗ ((inFl m c 5 ∗ inFl m c 6 ∗ inFl m c 7 ∗ gFl m c ∗ bFl m c ∗ Ow c ((bill c).drop 2)) -∗ Ψ (⟨(SemArray.scalar (sig.barrier 0 rfl)), (Scalar.remsi (Scalar.addi v2 3#32) 4#32)⟩))
      -∗ run c (k0_part2 (F := F) xM (Memref.isWhole_whole _) gM (Memref.isWhole_whole _) bM (Memref.isWhole_whole _) oM (Memref.isWhole_whole _) xvM (Memref.isWhole_whole _) gvM (Memref.isWhole_whole _) bvM (Memref.isWhole_whole _) ovM (Memref.isWhole_whole _) cmM (Memref.isWhole_whole _) cc0_scratch5 cc0_scratch6 cc0_scratch7 cc0_scratch8 cc0_scratch9 c v2) Ψ) := by
  simp only [k0_part2_eq_skeleton]
  unfold k0_part2_skel
  simp only [semSignalWord, semWaitWord, Prog.lift, Prog.bind_op, Prog.bind_ret, Prog.pure_eq_ret, wp_deviceId]
  iintro #HE HI5 HI6 HI7 HG HB HT0 HY0 HW HT1 HY1 Hk
  iapply (op_in m c 5 rfl rfl) $$ HI5
  iintro HI5
  iapply (op_in m c 6 rfl rfl) $$ HI6
  iintro HI6
  iapply (op_in m c 7 rfl rfl) $$ HI7
  iintro HI7
  iapply (op_g m c rfl) $$ HG
  iintro HG
  iapply (op_b m c rfl) $$ HB
  iintro HB
  iapply (op_signal m K c 0 _ (dev1_bar c) rfl rfl ((bill c).drop 0) ((bill c).drop 1) rfl) $$ HE HT0 HY0 HW
  iintro HW
  iapply (op_signal m K c 1 _ (dev2_bar c) rfl rfl ((bill c).drop 1) ((bill c).drop 2) rfl) $$ HE HT1 HY1 HW
  iintro HW
  iapply (run_ret c)
  iapply Hk
  isplitl [HI5]; · iexact HI5
  isplitl [HI6]; · iexact HI6
  isplitl [HI7]; · iexact HI7
  isplitl [HG]; · iexact HG
  isplitl [HB]; · iexact HB
  iexact HW

theorem part3_run (v49 : BitVec 32)  {Ψ} :
    Env m K ⊢ iprop((dutyTok ER (barCell (peer c 2)) 0 (Fin.rev 2)) -∗ (land c 0 (Fin.rev 2) ∗ land c 1 (Fin.rev 2) ∗ land c 2 (Fin.rev 2) ∗ land c 3 (Fin.rev 2)) -∗ (Ow c ((bill c).drop 2)) -∗ ((Ow c ((bill c).drop 3)) -∗ Ψ (⟨k0_pay1 (F := F), (iota .tc S256x2 32 [1] iota_S256x2_d1_w32), k0_pay2, k0_pay3, k0_pay4⟩))
      -∗ run c (k0_part3 (F := F) xM (Memref.isWhole_whole _) gM (Memref.isWhole_whole _) bM (Memref.isWhole_whole _) oM (Memref.isWhole_whole _) xvM (Memref.isWhole_whole _) gvM (Memref.isWhole_whole _) bvM (Memref.isWhole_whole _) ovM (Memref.isWhole_whole _) cmM (Memref.isWhole_whole _) cc0_scratch5 cc0_scratch6 cc0_scratch7 cc0_scratch8 cc0_scratch9 c (SemArray.scalar (sig.barrier 0 rfl)) v49) Ψ) := by
  simp only [k0_part3_eq_skeleton]
  unfold k0_part3_skel
  simp only [semSignalWord, semWaitWord, Prog.lift, Prog.bind_op, Prog.bind_ret, Prog.pure_eq_ret, wp_deviceId]
  iintro #HE HT2 HY2 HW Hk
  iapply (op_signal m K c 2 _ (dev3_bar c) rfl rfl ((bill c).drop 2) ((bill c).drop 3) rfl) $$ HE HT2 HY2 HW
  iintro HW
  iapply (run_ret c)
  iapply Hk
  iexact HW

theorem part5_run (v72 : FVec F S256x128 .f32) (v101 : FVec F S256x2 .f32) (v123 : IVec S512x4 32) (v126 : IVec S512x4 32) (v140 : IVec S512x4 1) (v142 : IVec S512x4 32) (hw1 : k0_pay11 v72 v101 (xchunk m c 0) = pack 0 (xchunk m c 0)) (hw2 : k0_pay12 v72 v101 (xchunk m c 0) = pack 1 (xchunk m c 0)) {Ψ} :
    Env m K ⊢ iprop((inFl m c 0) -∗ (Ow c ((bill c).drop 3)) -∗ (sub c 0 0 0) -∗ (sub c 0 1 0) -∗ ((inDone m c 0 ∗ Ow c ((bill c).drop 3) ∗ subD m c 0 0 0 ∗ subD m c 0 1 0) -∗ Ψ ((k0_pay10 (F := F) v123 v126 v140 v142)))
      -∗ run c (k0_part5 (F := F) xM (Memref.isWhole_whole _) gM (Memref.isWhole_whole _) bM (Memref.isWhole_whole _) oM (Memref.isWhole_whole _) xvM (Memref.isWhole_whole _) gvM (Memref.isWhole_whole _) bvM (Memref.isWhole_whole _) ovM (Memref.isWhole_whole _) cmM (Memref.isWhole_whole _) cc0_scratch5 cc0_scratch6 cc0_scratch7 cc0_scratch8 cc0_scratch9 v72 v101 v123 v126 v140 v142) Ψ) := by
  simp only [k0_part5_eq_skeleton]
  unfold k0_part5_skel
  simp only [semSignalWord, semWaitWord, Prog.lift, Prog.bind_op, Prog.bind_ret, Prog.pure_eq_ret, wp_deviceId]
  iintro #HE HI0 HW HS000 HS010 Hk
  iapply (op_in_wait m K c 0 rfl ((bill c).drop 3) (high_bill c 3)) $$ HE HI0 HW
  iintro ⟨HI0, HW⟩
  iapply (op_chunk m c 0 rfl) $$ HI0
  iintro HI0
  iapply (op_sub_load c 0 0 0 rfl _ (fun _ => rfl)) $$ HS000
  iintro HS000
  iapply (op_sub_store m c 0 0 0 rfl hw1) $$ HS000
  iintro HS000
  iapply (op_sub_load c 0 1 0 rfl _ (fun _ => rfl)) $$ HS010
  iintro HS010
  iapply (op_sub_store m c 0 1 0 rfl hw2) $$ HS010
  iintro HS010
  iapply (run_ret c)
  iapply Hk
  isplitl [HI0]; · iexact HI0
  isplitl [HW]; · iexact HW
  isplitl [HS000]; · iexact HS000
  iexact HS010

theorem part6_run (v2 : BitVec 32) (v72 : FVec F S256x128 .f32) (v101 : FVec F S256x2 .f32) (hw1 : k0_pay13 v72 v101 (xchunk m c 1) = pack 0 (xchunk m c 1)) (hw2 : k0_pay14 v72 v101 (xchunk m c 1) = pack 1 (xchunk m c 1)) {Ψ} :
    Env m K ⊢ iprop((inFl m c 1) -∗ (Ow c ((bill c).drop 3)) -∗ (sub c 0 0 1) -∗ (sub c 0 1 1) -∗ (cred (tallyAt (barCell c) () 3)) -∗ (posB c 0) -∗ ((inDone m c 1 ∗ Ow c ((bill c).drop 3) ∗ subD m c 0 0 1 ∗ subD m c 0 1 1 ∗ posB c 1 ∗ barPay c 0 ∗ barPay c 1 ∗ barPay c 2) -∗ Ψ (⟨(Scalar.remsi (Scalar.addi v2 1#32) 4#32), (Scalar.muli (Scalar.remsi (Scalar.addi v2 1#32) 4#32) 1#32)⟩))
      -∗ run c (k0_part6 (F := F) xM (Memref.isWhole_whole _) gM (Memref.isWhole_whole _) bM (Memref.isWhole_whole _) oM (Memref.isWhole_whole _) xvM (Memref.isWhole_whole _) gvM (Memref.isWhole_whole _) bvM (Memref.isWhole_whole _) ovM (Memref.isWhole_whole _) cmM (Memref.isWhole_whole _) cc0_scratch5 cc0_scratch6 cc0_scratch7 cc0_scratch8 cc0_scratch9 v2 (SemArray.scalar (sig.barrier 0 rfl)) v72 v101) Ψ) := by
  simp only [k0_part6_eq_skeleton]
  unfold k0_part6_skel
  simp only [semSignalWord, semWaitWord, Prog.lift, Prog.bind_op, Prog.bind_ret, Prog.pure_eq_ret, wp_deviceId]
  iintro #HE HI1 HW HS001 HS011 HC HZ Hk
  iapply (op_in_wait m K c 1 rfl ((bill c).drop 3) (high_bill c 3)) $$ HE HI1 HW
  iintro ⟨HI1, HW⟩
  iapply (op_chunk m c 1 rfl) $$ HI1
  iintro HI1
  iapply (op_sub_load c 0 0 1 rfl _ (fun _ => rfl)) $$ HS001
  iintro HS001
  iapply (op_sub_store m c 0 0 1 rfl hw1) $$ HS001
  iintro HS001
  iapply (op_sub_load c 0 1 1 rfl _ (fun _ => rfl)) $$ HS011
  iintro HS011
  iapply (op_sub_store m c 0 1 1 rfl hw2) $$ HS011
  iintro HS011
  iapply (op_bar_wait m K c rfl rfl ((bill c).drop 3) (high_bill_recv c)) $$ HE HC HZ HW
  iintro ⟨HE0, HE1, HE2, HZ, HW⟩
  iapply (run_ret c)
  iapply Hk
  isplitl [HI1]; · iexact HI1
  isplitl [HW]; · iexact HW
  isplitl [HS001]; · iexact HS001
  isplitl [HS011]; · iexact HS011
  isplitl [HZ]; · iexact HZ
  isplitl [HE0]; · iexact HE0
  isplitl [HE1]; · iexact HE1
  iexact HE2

theorem part7_run (v2 : BitVec 32) (v198 : BitVec 32)  {Ψ} :
    Env m K ⊢ iprop((subD m c 0 0 0) -∗ (subD m c 0 0 1) -∗ (subD m c 0 1 0) -∗ (subD m c 0 1 1) -∗ (sendRes c 0 0) -∗ (land (peer c 0) 0 0) -∗ (Ow c ((bill c).drop 3)) -∗ (sendRes c 0 1) -∗ (land (peer c 1) 0 1) -∗ ((lent m c 0 2 ∗ keptP m c 0 ∗ Ow c ((bill c).drop 5) ∗ sendFl c 0 0 ∗ sendFl c 0 1) -∗ Ψ (⟨(Scalar.remsi (Scalar.addi v2 2#32) 4#32), (Scalar.remsi (Scalar.addi v2 3#32) 4#32)⟩))
      -∗ run c (k0_part7 (F := F) xM (Memref.isWhole_whole _) gM (Memref.isWhole_whole _) bM (Memref.isWhole_whole _) oM (Memref.isWhole_whole _) xvM (Memref.isWhole_whole _) gvM (Memref.isWhole_whole _) bvM (Memref.isWhole_whole _) ovM (Memref.isWhole_whole _) cmM (Memref.isWhole_whole _) cc0_scratch5 cc0_scratch6 cc0_scratch7 cc0_scratch8 cc0_scratch9 c v2 v198) Ψ) := by
  simp only [k0_part7_eq_skeleton]
  unfold k0_part7_skel
  simp only [semSignalWord, semWaitWord, Prog.lift, Prog.bind_op, Prog.bind_ret, Prog.pure_eq_ret, wp_deviceId]
  iintro #HE HS000 HS001 HS010 HS011 HA00 HD00 HW HA01 HD01 Hk
  ihave HLL := (lend_out m c 0) $$ [HS000 HS001 HS010 HS011]
  · isplitl [HS000]; · iexact HS000
    isplitl [HS001]; · iexact HS001
    isplitl [HS010]; · iexact HS010
    iexact HS011
  icases HLL with ⟨HL00, HL01, HL02, HK0⟩
  iapply (op_send m K c 0 0 _ (dev4_peer c) rfl rfl rfl rfl ((bill c).drop 3) ((bill c).drop 4) rfl) $$ HE HA00 HL00 HD00 HW
  iintro ⟨HF00, HW⟩
  iapply (op_send m K c 0 1 _ (dev5_peer c) rfl rfl rfl rfl ((bill c).drop 4) ((bill c).drop 5) rfl) $$ HE HA01 HL01 HD01 HW
  iintro ⟨HF01, HW⟩
  iapply (run_ret c)
  iapply Hk
  isplitl [HL02]; · iexact HL02
  isplitl [HK0]; · iexact HK0
  isplitl [HW]; · iexact HW
  isplitl [HF00]; · iexact HF00
  iexact HF01

theorem part8_run (v72 : FVec F S256x128 .f32) (v101 : FVec F S256x2 .f32) (v221 : BitVec 32) (hw1 : k0_pay15 v72 v101 (xchunk m c 2) = pack 0 (xchunk m c 2)) {Ψ} :
    Env m K ⊢ iprop((sendRes c 0 2) -∗ (lent m c 0 2) -∗ (land (peer c 2) 0 2) -∗ (Ow c ((bill c).drop 5)) -∗ (inFl m c 2) -∗ (sub c 1 0 0) -∗ ((Ow c ((bill c).drop 6) ∗ sendFl c 0 2 ∗ inDone m c 2 ∗ subD m c 1 0 0) -∗ Ψ ((k0_pay16 v72 v101 (xchunk m c 2))))
      -∗ run c (k0_part8 (F := F) xM (Memref.isWhole_whole _) gM (Memref.isWhole_whole _) bM (Memref.isWhole_whole _) oM (Memref.isWhole_whole _) xvM (Memref.isWhole_whole _) gvM (Memref.isWhole_whole _) bvM (Memref.isWhole_whole _) ovM (Memref.isWhole_whole _) cmM (Memref.isWhole_whole _) cc0_scratch5 cc0_scratch6 cc0_scratch7 cc0_scratch8 cc0_scratch9 c v72 v101 v221) Ψ) := by
  simp only [k0_part8_eq_skeleton]
  unfold k0_part8_skel
  simp only [semSignalWord, semWaitWord, Prog.lift, Prog.bind_op, Prog.bind_ret, Prog.pure_eq_ret, wp_deviceId]
  iintro #HE HA02 HL02 HD02 HW HI2 HS100 Hk
  iapply (op_send m K c 0 2 _ (dev6_peer c) rfl rfl rfl rfl ((bill c).drop 5) ((bill c).drop 6) rfl) $$ HE HA02 HL02 HD02 HW
  iintro ⟨HF02, HW⟩
  iapply (op_in_wait m K c 2 rfl ((bill c).drop 6) (high_bill c 6)) $$ HE HI2 HW
  iintro ⟨HI2, HW⟩
  iapply (op_chunk m c 2 rfl) $$ HI2
  iintro HI2
  iapply (op_sub_load c 1 0 0 rfl _ (fun _ => rfl)) $$ HS100
  iintro HS100
  iapply (op_sub_store m c 1 0 0 rfl hw1) $$ HS100
  iintro HS100
  iapply (run_ret c)
  iapply Hk
  isplitl [HW]; · iexact HW
  isplitl [HF02]; · iexact HF02
  isplitl [HI2]; · iexact HI2
  iexact HS100

theorem part9_run (v2 : BitVec 32) (v72 : FVec F S256x128 .f32) (v101 : FVec F S256x2 .f32) (v250 : FVec F S2x128 .f32) (hw1 : k0_pay17 v250 = pack 1 (xchunk m c 2)) (hw2 : k0_pay18 v72 v101 (xchunk m c 3) = pack 0 (xchunk m c 3)) (hw3 : k0_pay19 v72 v101 (xchunk m c 3) = pack 1 (xchunk m c 3)) {Ψ} :
    Env m K ⊢ iprop((sub c 1 1 0) -∗ (inFl m c 3) -∗ (Ow c ((bill c).drop 6)) -∗ (sub c 1 0 1) -∗ (sub c 1 1 1) -∗ ((subD m c 1 1 0 ∗ inDone m c 3 ∗ Ow c ((bill c).drop 6) ∗ subD m c 1 0 1 ∗ subD m c 1 1 1) -∗ Ψ ((Scalar.remsi (Scalar.addi v2 1#32) 4#32)))
      -∗ run c (k0_part9 (F := F) xM (Memref.isWhole_whole _) gM (Memref.isWhole_whole _) bM (Memref.isWhole_whole _) oM (Memref.isWhole_whole _) xvM (Memref.isWhole_whole _) gvM (Memref.isWhole_whole _) bvM (Memref.isWhole_whole _) ovM (Memref.isWhole_whole _) cmM (Memref.isWhole_whole _) cc0_scratch5 cc0_scratch6 cc0_scratch7 cc0_scratch8 cc0_scratch9 v2 v72 v101 v250) Ψ) := by
  simp only [k0_part9_eq_skeleton]
  unfold k0_part9_skel
  simp only [semSignalWord, semWaitWord, Prog.lift, Prog.bind_op, Prog.bind_ret, Prog.pure_eq_ret, wp_deviceId]
  iintro #HE HS110 HI3 HW HS101 HS111 Hk
  iapply (op_sub_load c 1 1 0 rfl _ (fun _ => rfl)) $$ HS110
  iintro HS110
  iapply (op_sub_store m c 1 1 0 rfl hw1) $$ HS110
  iintro HS110
  iapply (op_in_wait m K c 3 rfl ((bill c).drop 6) (high_bill c 6)) $$ HE HI3 HW
  iintro ⟨HI3, HW⟩
  iapply (op_chunk m c 3 rfl) $$ HI3
  iintro HI3
  iapply (op_sub_load c 1 0 1 rfl _ (fun _ => rfl)) $$ HS101
  iintro HS101
  iapply (op_sub_store m c 1 0 1 rfl hw2) $$ HS101
  iintro HS101
  iapply (op_sub_load c 1 1 1 rfl _ (fun _ => rfl)) $$ HS111
  iintro HS111
  iapply (op_sub_store m c 1 1 1 rfl hw3) $$ HS111
  iintro HS111
  iapply (run_ret c)
  iapply Hk
  isplitl [HS110]; · iexact HS110
  isplitl [HI3]; · iexact HI3
  isplitl [HW]; · iexact HW
  isplitl [HS101]; · iexact HS101
  iexact HS111

theorem part10_run (v2 : BitVec 32) (v277 : BitVec 32)  {Ψ} :
    Env m K ⊢ iprop((subD m c 1 0 0) -∗ (subD m c 1 0 1) -∗ (subD m c 1 1 0) -∗ (subD m c 1 1 1) -∗ (sendRes c 1 0) -∗ (land (peer c 0) 1 0) -∗ (Ow c ((bill c).drop 6)) -∗ (sendRes c 1 1) -∗ (land (peer c 1) 1 1) -∗ ((lent m c 1 2 ∗ keptP m c 1 ∗ Ow c ((bill c).drop 8) ∗ sendFl c 1 0 ∗ sendFl c 1 1) -∗ Ψ (⟨(Scalar.remsi (Scalar.addi v2 2#32) 4#32), (Scalar.remsi (Scalar.addi v2 3#32) 4#32)⟩))
      -∗ run c (k0_part10 (F := F) xM (Memref.isWhole_whole _) gM (Memref.isWhole_whole _) bM (Memref.isWhole_whole _) oM (Memref.isWhole_whole _) xvM (Memref.isWhole_whole _) gvM (Memref.isWhole_whole _) bvM (Memref.isWhole_whole _) ovM (Memref.isWhole_whole _) cmM (Memref.isWhole_whole _) cc0_scratch5 cc0_scratch6 cc0_scratch7 cc0_scratch8 cc0_scratch9 c v2 v277) Ψ) := by
  simp only [k0_part10_eq_skeleton]
  unfold k0_part10_skel
  simp only [semSignalWord, semWaitWord, Prog.lift, Prog.bind_op, Prog.bind_ret, Prog.pure_eq_ret, wp_deviceId]
  iintro #HE HS100 HS101 HS110 HS111 HA10 HD10 HW HA11 HD11 Hk
  ihave HLL := (lend_out m c 1) $$ [HS100 HS101 HS110 HS111]
  · isplitl [HS100]; · iexact HS100
    isplitl [HS101]; · iexact HS101
    isplitl [HS110]; · iexact HS110
    iexact HS111
  icases HLL with ⟨HL10, HL11, HL12, HK1⟩
  iapply (op_send m K c 1 0 _ (dev7_peer c) rfl rfl rfl rfl ((bill c).drop 6) ((bill c).drop 7) rfl) $$ HE HA10 HL10 HD10 HW
  iintro ⟨HF10, HW⟩
  iapply (op_send m K c 1 1 _ (dev8_peer c) rfl rfl rfl rfl ((bill c).drop 7) ((bill c).drop 8) rfl) $$ HE HA11 HL11 HD11 HW
  iintro ⟨HF11, HW⟩
  iapply (run_ret c)
  iapply Hk
  isplitl [HL12]; · iexact HL12
  isplitl [HK1]; · iexact HK1
  isplitl [HW]; · iexact HW
  isplitl [HF10]; · iexact HF10
  iexact HF11

theorem part11_run (v72 : FVec F S256x128 .f32) (v101 : FVec F S256x2 .f32) (v301 : BitVec 32) (hw1 : k0_pay20 v72 v101 (xchunk m c 4) = pack 0 (xchunk m c 4)) {Ψ} :
    Env m K ⊢ iprop((sendRes c 1 2) -∗ (lent m c 1 2) -∗ (land (peer c 2) 1 2) -∗ (Ow c ((bill c).drop 8)) -∗ (inFl m c 4) -∗ (sub c 2 0 0) -∗ ((Ow c ((bill c).drop 9) ∗ sendFl c 1 2 ∗ inDone m c 4 ∗ subD m c 2 0 0) -∗ Ψ (⟨k0_pay21 v72 (xchunk m c 4), (constant S2x128 .f32 0x00000000#32)⟩))
      -∗ run c (k0_part11 (F := F) xM (Memref.isWhole_whole _) gM (Memref.isWhole_whole _) bM (Memref.isWhole_whole _) oM (Memref.isWhole_whole _) xvM (Memref.isWhole_whole _) gvM (Memref.isWhole_whole _) bvM (Memref.isWhole_whole _) ovM (Memref.isWhole_whole _) cmM (Memref.isWhole_whole _) cc0_scratch5 cc0_scratch6 cc0_scratch7 cc0_scratch8 cc0_scratch9 c v72 v101 v301) Ψ) := by
  simp only [k0_part11_eq_skeleton]
  unfold k0_part11_skel
  simp only [semSignalWord, semWaitWord, Prog.lift, Prog.bind_op, Prog.bind_ret, Prog.pure_eq_ret, wp_deviceId]
  iintro #HE HA12 HL12 HD12 HW HI4 HS200 Hk
  iapply (op_send m K c 1 2 _ (dev9_peer c) rfl rfl rfl rfl ((bill c).drop 8) ((bill c).drop 9) rfl) $$ HE HA12 HL12 HD12 HW
  iintro ⟨HF12, HW⟩
  iapply (op_in_wait m K c 4 rfl ((bill c).drop 9) (high_bill c 9)) $$ HE HI4 HW
  iintro ⟨HI4, HW⟩
  iapply (op_chunk m c 4 rfl) $$ HI4
  iintro HI4
  iapply (op_sub_load c 2 0 0 rfl _ (fun _ => rfl)) $$ HS200
  iintro HS200
  iapply (op_sub_store m c 2 0 0 rfl hw1) $$ HS200
  iintro HS200
  iapply (run_ret c)
  iapply Hk
  isplitl [HW]; · iexact HW
  isplitl [HF12]; · iexact HF12
  isplitl [HI4]; · iexact HI4
  iexact HS200

theorem part12_run (v2 : BitVec 32) (v72 : FVec F S256x128 .f32) (v101 : FVec F S256x2 .f32) (v329 : FVec F S256x128 .f32) (cst_269 : FVec F S2x128 .f32) (hw1 : k0_pay22 v101 v329 cst_269 = pack 1 (xchunk m c 4)) (hw2 : k0_pay23 v72 v101 (xchunk m c 5) = pack 0 (xchunk m c 5)) (hw3 : k0_pay24 v72 v101 (xchunk m c 5) = pack 1 (xchunk m c 5)) {Ψ} :
    Env m K ⊢ iprop((sub c 2 1 0) -∗ (inFl m c 5) -∗ (Ow c ((bill c).drop 9)) -∗ (sub c 2 0 1) -∗ (sub c 2 1 1) -∗ ((subD m c 2 1 0 ∗ inDone m c 5 ∗ Ow c ((bill c).drop 9) ∗ subD m c 2 0 1 ∗ subD m c 2 1 1) -∗ Ψ ((Scalar.remsi (Scalar.addi v2 1#32) 4#32)))
      -∗ run c (k0_part12 (F := F) xM (Memref.isWhole_whole _) gM (Memref.isWhole_whole _) bM (Memref.isWhole_whole _) oM (Memref.isWhole_whole _) xvM (Memref.isWhole_whole _) gvM (Memref.isWhole_whole _) bvM (Memref.isWhole_whole _) ovM (Memref.isWhole_whole _) cmM (Memref.isWhole_whole _) cc0_scratch5 cc0_scratch6 cc0_scratch7 cc0_scratch8 cc0_scratch9 v2 v72 v101 v329 cst_269) Ψ) := by
  simp only [k0_part12_eq_skeleton]
  unfold k0_part12_skel
  simp only [semSignalWord, semWaitWord, Prog.lift, Prog.bind_op, Prog.bind_ret, Prog.pure_eq_ret, wp_deviceId]
  iintro #HE HS210 HI5 HW HS201 HS211 Hk
  iapply (op_sub_load c 2 1 0 rfl _ (fun _ => rfl)) $$ HS210
  iintro HS210
  iapply (op_sub_store m c 2 1 0 rfl hw1) $$ HS210
  iintro HS210
  iapply (op_in_wait m K c 5 rfl ((bill c).drop 9) (high_bill c 9)) $$ HE HI5 HW
  iintro ⟨HI5, HW⟩
  iapply (op_chunk m c 5 rfl) $$ HI5
  iintro HI5
  iapply (op_sub_load c 2 0 1 rfl _ (fun _ => rfl)) $$ HS201
  iintro HS201
  iapply (op_sub_store m c 2 0 1 rfl hw2) $$ HS201
  iintro HS201
  iapply (op_sub_load c 2 1 1 rfl _ (fun _ => rfl)) $$ HS211
  iintro HS211
  iapply (op_sub_store m c 2 1 1 rfl hw3) $$ HS211
  iintro HS211
  iapply (run_ret c)
  iapply Hk
  isplitl [HS210]; · iexact HS210
  isplitl [HI5]; · iexact HI5
  isplitl [HW]; · iexact HW
  isplitl [HS201]; · iexact HS201
  iexact HS211

theorem part13_run (v2 : BitVec 32) (v357 : BitVec 32)  {Ψ} :
    Env m K ⊢ iprop((subD m c 2 0 0) -∗ (subD m c 2 0 1) -∗ (subD m c 2 1 0) -∗ (subD m c 2 1 1) -∗ (sendRes c 2 0) -∗ (land (peer c 0) 2 0) -∗ (Ow c ((bill c).drop 9)) -∗ (sendRes c 2 1) -∗ (land (peer c 1) 2 1) -∗ ((lent m c 2 2 ∗ keptP m c 2 ∗ Ow c ((bill c).drop 11) ∗ sendFl c 2 0 ∗ sendFl c 2 1) -∗ Ψ (⟨(Scalar.remsi (Scalar.addi v2 2#32) 4#32), (Scalar.addi v2 3#32)⟩))
      -∗ run c (k0_part13 (F := F) xM (Memref.isWhole_whole _) gM (Memref.isWhole_whole _) bM (Memref.isWhole_whole _) oM (Memref.isWhole_whole _) xvM (Memref.isWhole_whole _) gvM (Memref.isWhole_whole _) bvM (Memref.isWhole_whole _) ovM (Memref.isWhole_whole _) cmM (Memref.isWhole_whole _) cc0_scratch5 cc0_scratch6 cc0_scratch7 cc0_scratch8 cc0_scratch9 c v2 v357) Ψ) := by
  simp only [k0_part13_eq_skeleton]
  unfold k0_part13_skel
  simp only [semSignalWord, semWaitWord, Prog.lift, Prog.bind_op, Prog.bind_ret, Prog.pure_eq_ret, wp_deviceId]
  iintro #HE HS200 HS201 HS210 HS211 HA20 HD20 HW HA21 HD21 Hk
  ihave HLL := (lend_out m c 2) $$ [HS200 HS201 HS210 HS211]
  · isplitl [HS200]; · iexact HS200
    isplitl [HS201]; · iexact HS201
    isplitl [HS210]; · iexact HS210
    iexact HS211
  icases HLL with ⟨HL20, HL21, HL22, HK2⟩
  iapply (op_send m K c 2 0 _ (dev10_peer c) rfl rfl rfl rfl ((bill c).drop 9) ((bill c).drop 10) rfl) $$ HE HA20 HL20 HD20 HW
  iintro ⟨HF20, HW⟩
  iapply (op_send m K c 2 1 _ (dev11_peer c) rfl rfl rfl rfl ((bill c).drop 10) ((bill c).drop 11) rfl) $$ HE HA21 HL21 HD21 HW
  iintro ⟨HF21, HW⟩
  iapply (run_ret c)
  iapply Hk
  isplitl [HL22]; · iexact HL22
  isplitl [HK2]; · iexact HK2
  isplitl [HW]; · iexact HW
  isplitl [HF20]; · iexact HF20
  iexact HF21

theorem part14_run (v72 : FVec F S256x128 .f32) (v101 : FVec F S256x2 .f32) (v380 : BitVec 32)  {Ψ} :
    Env m K ⊢ iprop((sendRes c 2 2) -∗ (lent m c 2 2) -∗ (land (peer c 2) 2 2) -∗ (Ow c ((bill c).drop 11)) -∗ (inFl m c 6) -∗ (sub c 3 0 0) -∗ ((Ow c ((bill c).drop 12) ∗ sendFl c 2 2 ∗ inDone m c 6 ∗ sub c 3 0 0) -∗ Ψ (⟨(Scalar.remsi v380 4#32), k0_pay25 (xchunk m c 6), k0_pay26 v72 v101 (xchunk m c 6)⟩))
      -∗ run c (k0_part14 (F := F) xM (Memref.isWhole_whole _) gM (Memref.isWhole_whole _) bM (Memref.isWhole_whole _) oM (Memref.isWhole_whole _) xvM (Memref.isWhole_whole _) gvM (Memref.isWhole_whole _) bvM (Memref.isWhole_whole _) ovM (Memref.isWhole_whole _) cmM (Memref.isWhole_whole _) cc0_scratch5 cc0_scratch6 cc0_scratch7 cc0_scratch8 cc0_scratch9 c v72 v101 v380) Ψ) := by
  simp only [k0_part14_eq_skeleton]
  unfold k0_part14_skel
  simp only [semSignalWord, semWaitWord, Prog.lift, Prog.bind_op, Prog.bind_ret, Prog.pure_eq_ret, wp_deviceId]
  iintro #HE HA22 HL22 HD22 HW HI6 HS300 Hk
  iapply (op_send m K c 2 2 _ (dev12_peer c) rfl rfl rfl rfl ((bill c).drop 11) ((bill c).drop 12) rfl) $$ HE HA22 HL22 HD22 HW
  iintro ⟨HF22, HW⟩
  iapply (op_in_wait m K c 6 rfl ((bill c).drop 12) (high_bill c 12)) $$ HE HI6 HW
  iintro ⟨HI6, HW⟩
  iapply (op_chunk m c 6 rfl) $$ HI6
  iintro HI6
  iapply (op_sub_load c 3 0 0 rfl _ (fun _ => rfl)) $$ HS300
  iintro HS300
  iapply (run_ret c)
  iapply Hk
  isplitl [HW]; · iexact HW
  isplitl [HF22]; · iexact HF22
  isplitl [HI6]; · iexact HI6
  iexact HS300

theorem part15_run (v72 : FVec F S256x128 .f32) (v101 : FVec F S256x2 .f32) (v401 : FVec F S256x1 .f32) (v404 : FVec F S2x128 .f32) (hw1 : k0_pay27 v404 = pack 0 (xchunk m c 6)) (hw2 : k0_pay28 v72 v101 v401 = pack 1 (xchunk m c 6)) (hw3 : k0_pay29 v72 v101 (xchunk m c 7) = pack 0 (xchunk m c 7)) {Ψ} :
    Env m K ⊢ iprop((sub c 3 0 0) -∗ (sub c 3 1 0) -∗ (inFl m c 7) -∗ (Ow c ((bill c).drop 12)) -∗ (sub c 3 0 1) -∗ (sub c 3 1 1) -∗ ((subD m c 3 0 0 ∗ subD m c 3 1 0 ∗ inDone m c 7 ∗ Ow c ((bill c).drop 12) ∗ subD m c 3 0 1 ∗ sub c 3 1 1) -∗ Ψ ((k0_pay30 v72 v101 (xchunk m c 7))))
      -∗ run c (k0_part15 (F := F) xM (Memref.isWhole_whole _) gM (Memref.isWhole_whole _) bM (Memref.isWhole_whole _) oM (Memref.isWhole_whole _) xvM (Memref.isWhole_whole _) gvM (Memref.isWhole_whole _) bvM (Memref.isWhole_whole _) ovM (Memref.isWhole_whole _) cmM (Memref.isWhole_whole _) cc0_scratch5 cc0_scratch6 cc0_scratch7 cc0_scratch8 cc0_scratch9 v72 v101 v401 v404) Ψ) := by
  simp only [k0_part15_eq_skeleton]
  unfold k0_part15_skel
  simp only [semSignalWord, semWaitWord, Prog.lift, Prog.bind_op, Prog.bind_ret, Prog.pure_eq_ret, wp_deviceId]
  iintro #HE HS300 HS310 HI7 HW HS301 HS311 Hk
  iapply (op_sub_store m c 3 0 0 rfl hw1) $$ HS300
  iintro HS300
  iapply (op_sub_load c 3 1 0 rfl _ (fun _ => rfl)) $$ HS310
  iintro HS310
  iapply (op_sub_store m c 3 1 0 rfl hw2) $$ HS310
  iintro HS310
  iapply (op_in_wait m K c 7 rfl ((bill c).drop 12) (high_bill c 12)) $$ HE HI7 HW
  iintro ⟨HI7, HW⟩
  iapply (op_chunk m c 7 rfl) $$ HI7
  iintro HI7
  iapply (op_sub_load c 3 0 1 rfl _ (fun _ => rfl)) $$ HS301
  iintro HS301
  iapply (op_sub_store m c 3 0 1 rfl hw3) $$ HS301
  iintro HS301
  iapply (op_sub_load c 3 1 1 rfl _ (fun _ => rfl)) $$ HS311
  iintro HS311
  iapply (run_ret c)
  iapply Hk
  isplitl [HS300]; · iexact HS300
  isplitl [HS310]; · iexact HS310
  isplitl [HI7]; · iexact HI7
  isplitl [HW]; · iexact HW
  isplitl [HS301]; · iexact HS301
  iexact HS311

theorem part16_run (v2 : BitVec 32) (v435 : FVec F S1x1x1x2x128 .f32) (hw1 : v435 = pack 1 (xchunk m c 7)) {Ψ} :
    Env m K ⊢ iprop((sub c 3 1 1) -∗ (subD m c 3 0 0) -∗ (subD m c 3 0 1) -∗ (subD m c 3 1 0) -∗ (sendRes c 3 0) -∗ (land (peer c 0) 3 0) -∗ (Ow c ((bill c).drop 12)) -∗ ((lent m c 3 1 ∗ lent m c 3 2 ∗ keptP m c 3 ∗ Ow c ((bill c).drop 13) ∗ sendFl c 3 0) -∗ Ψ (⟨(Scalar.remsi (Scalar.addi v2 1#32) 4#32), (Scalar.remsi (Scalar.addi v2 2#32) 4#32)⟩))
      -∗ run c (k0_part16 (F := F) xM (Memref.isWhole_whole _) gM (Memref.isWhole_whole _) bM (Memref.isWhole_whole _) oM (Memref.isWhole_whole _) xvM (Memref.isWhole_whole _) gvM (Memref.isWhole_whole _) bvM (Memref.isWhole_whole _) ovM (Memref.isWhole_whole _) cmM (Memref.isWhole_whole _) cc0_scratch5 cc0_scratch6 cc0_scratch7 cc0_scratch8 cc0_scratch9 c v2 v435) Ψ) := by
  simp only [k0_part16_eq_skeleton]
  unfold k0_part16_skel
  simp only [semSignalWord, semWaitWord, Prog.lift, Prog.bind_op, Prog.bind_ret, Prog.pure_eq_ret, wp_deviceId]
  iintro #HE HS311 HS300 HS301 HS310 HA30 HD30 HW Hk
  iapply (op_sub_store m c 3 1 1 rfl hw1) $$ HS311
  iintro HS311
  ihave HLL := (lend_out m c 3) $$ [HS300 HS301 HS310 HS311]
  · isplitl [HS300]; · iexact HS300
    isplitl [HS301]; · iexact HS301
    isplitl [HS310]; · iexact HS310
    iexact HS311
  icases HLL with ⟨HL30, HL31, HL32, HK3⟩
  iapply (op_send m K c 3 0 _ (dev13_peer c) rfl rfl rfl rfl ((bill c).drop 12) ((bill c).drop 13) rfl) $$ HE HA30 HL30 HD30 HW
  iintro ⟨HF30, HW⟩
  iapply (run_ret c)
  iapply Hk
  isplitl [HL31]; · iexact HL31
  isplitl [HL32]; · iexact HL32
  isplitl [HK3]; · iexact HK3
  isplitl [HW]; · iexact HW
  iexact HF30

theorem part17_run (v2 : BitVec 32) (v197 : BitVec 32)  {Ψ} :
    Env m K ⊢ iprop((sendRes c 3 1) -∗ (lent m c 3 1) -∗ (land (peer c 1) 3 1) -∗ (Ow c ((bill c).drop 13)) -∗ (sendRes c 3 2) -∗ (lent m c 3 2) -∗ (land (peer c 2) 3 2) -∗ (gFl m c) -∗ (bFl m c) -∗ ((Ow c [] ∗ sendFl c 3 1 ∗ sendFl c 3 2 ∗ gDone m c ∗ bDone m c) -∗ Ψ (⟨(Scalar.remsi (Scalar.addi v2 3#32) 4#32), k0_pay31 (gC m c), k0_pay32 (bC m c), (Scalar.muli v197 1#32)⟩))
      -∗ run c (k0_part17 (F := F) xM (Memref.isWhole_whole _) gM (Memref.isWhole_whole _) bM (Memref.isWhole_whole _) oM (Memref.isWhole_whole _) xvM (Memref.isWhole_whole _) gvM (Memref.isWhole_whole _) bvM (Memref.isWhole_whole _) ovM (Memref.isWhole_whole _) cmM (Memref.isWhole_whole _) cc0_scratch5 cc0_scratch6 cc0_scratch7 cc0_scratch8 cc0_scratch9 c v2 v197) Ψ) := by
  simp only [k0_part17_eq_skeleton]
  unfold k0_part17_skel
  simp only [semSignalWord, semWaitWord, Prog.lift, Prog.bind_op, Prog.bind_ret, Prog.pure_eq_ret, wp_deviceId]
  iintro #HE HA31 HL31 HD31 HW HA32 HL32 HD32 HG HB Hk
  iapply (op_send m K c 3 1 _ (dev14_peer c) rfl rfl rfl rfl ((bill c).drop 13) ((bill c).drop 14) rfl) $$ HE HA31 HL31 HD31 HW
  iintro ⟨HF31, HW⟩
  iapply (op_send m K c 3 2 _ (dev15_peer c) rfl rfl rfl rfl ((bill c).drop 14) ((bill c).drop 15) rfl) $$ HE HA32 HL32 HD32 HW
  iintro ⟨HF32, HW⟩
  ihave HW' := (Entails.of_eq (show (Ow c ((bill c).drop 15) : sProp 𝕄) = Ow c [] from rfl)) $$ HW
  irename HW' => HW
  iapply (op_g_wait m K c rfl) $$ HE HG HW
  iintro ⟨HG, HW⟩
  iapply (op_b_wait m K c rfl) $$ HE HB HW
  iintro ⟨HB, HW⟩
  iapply (op_g_load m c rfl) $$ HG
  iintro HG
  iapply (op_b_load m c rfl) $$ HB
  iintro HB
  iapply (run_ret c)
  iapply Hk
  isplitl [HW]; · iexact HW
  isplitl [HF31]; · iexact HF31
  isplitl [HF32]; · iexact HF32
  isplitl [HG]; · iexact HG
  iexact HB

end Cert.NormProof
-- ==== Proof.BodyB.lean ====
/-
The body's second half, part by part: the arrivals, the rows they finish, the write-back and the last waits.
-/
module

public import proofs.«01_k».proof.Proof.BodyA

@[expose] public section

set_option maxRecDepth 65536

noncomputable section

namespace Cert.NormProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CIx → ℕ) (c : Dev nD)

theorem part18_run (v209 : BitVec 32) (v221 : BitVec 32) (v480 : BitVec 32)  {Ψ} :
    Env m K ⊢ iprop((recvRes c 0 0) -∗ (Ow c []) -∗ (recvRes c 0 1) -∗ ((Ow c [] ∗ landed m c 0 0 ∗ posV c 0 0 1 ∗ landed m c 0 1 ∗ posV c 0 1 1) -∗ Ψ (⟨⟩))
      -∗ run c (k0_part18 (F := F) xM (Memref.isWhole_whole _) gM (Memref.isWhole_whole _) bM (Memref.isWhole_whole _) oM (Memref.isWhole_whole _) xvM (Memref.isWhole_whole _) gvM (Memref.isWhole_whole _) bvM (Memref.isWhole_whole _) ovM (Memref.isWhole_whole _) cmM (Memref.isWhole_whole _) cc0_scratch5 cc0_scratch6 cc0_scratch7 cc0_scratch8 cc0_scratch9 v209 v221 v480) Ψ) := by
  simp only [k0_part18_eq_skeleton]
  unfold k0_part18_skel
  simp only [semSignalWord, semWaitWord, Prog.lift, Prog.bind_op, Prog.bind_ret, Prog.pure_eq_ret, wp_deviceId]
  iintro #HE HR00 HW HR01 Hk
  iapply (op_recv_wait m K c 0 0 rfl) $$ HE HR00 HW
  iintro ⟨HV00, HX00, HW⟩
  iapply (op_recv_wait m K c 0 1 rfl) $$ HE HR01 HW
  iintro ⟨HV01, HX01, HW⟩
  iapply (run_ret c)
  iapply Hk
  isplitl [HW]; · iexact HW
  isplitl [HV00]; · iexact HV00
  isplitl [HX00]; · iexact HX00
  isplitl [HV01]; · iexact HV01
  iexact HX01

theorem part19_run   {Ψ} :
    Env m K ⊢ iprop((recvRes c 0 2) -∗ (Ow c []) -∗ (keptP m c 0) -∗ (landed m c 0 0) -∗ (landed m c 0 1) -∗ ((Ow c [] ∗ landed m c 0 2 ∗ posV c 0 2 1 ∗ keptP m c 0 ∗ landed m c 0 0 ∗ landed m c 0 1) -∗ Ψ (⟨k0_pay33 (commV m c 0 0 0) (commV m c 0 1 0) (commV m c 0 2 0) (commV m c 0 3 0), k0_pay34 (commV m c 0 0 1) (commV m c 0 1 1) (commV m c 0 2 1)⟩))
      -∗ run c (k0_part19 (F := F) xM (Memref.isWhole_whole _) gM (Memref.isWhole_whole _) bM (Memref.isWhole_whole _) oM (Memref.isWhole_whole _) xvM (Memref.isWhole_whole _) gvM (Memref.isWhole_whole _) bvM (Memref.isWhole_whole _) ovM (Memref.isWhole_whole _) cmM (Memref.isWhole_whole _) cc0_scratch5 cc0_scratch6 cc0_scratch7 cc0_scratch8 cc0_scratch9 ) Ψ) := by
  simp only [k0_part19_eq_skeleton]
  unfold k0_part19_skel
  simp only [semSignalWord, semWaitWord, Prog.lift, Prog.bind_op, Prog.bind_ret, Prog.pure_eq_ret, wp_deviceId]
  iintro #HE HR02 HW HK0 HV00 HV01 Hk
  iapply (op_recv_wait m K c 0 2 rfl) $$ HE HR02 HW
  iintro ⟨HV02, HX02, HW⟩
  iapply (op_kept m c 0 0 rfl) $$ HK0
  iintro HK0
  iapply (op_landed m c 0 0 1 rfl 0 rfl) $$ HV00
  iintro HV00
  iapply (op_landed m c 0 1 2 rfl 0 rfl) $$ HV01
  iintro HV01
  iapply (op_landed m c 0 2 3 rfl 0 rfl) $$ HV02
  iintro HV02
  iapply (op_kept m c 0 1 rfl) $$ HK0
  iintro HK0
  iapply (op_landed m c 0 0 1 rfl 1 rfl) $$ HV00
  iintro HV00
  iapply (op_landed m c 0 1 2 rfl 1 rfl) $$ HV01
  iintro HV01
  iapply (run_ret c)
  iapply Hk
  isplitl [HW]; · iexact HW
  isplitl [HV02]; · iexact HV02
  isplitl [HX02]; · iexact HX02
  isplitl [HK0]; · iexact HK0
  isplitl [HV00]; · iexact HV00
  iexact HV01

theorem part20_run (v122 : FVec F S512x128 .f32) (v151 : FVec F S512x4 .f32) (v477 : FVec F S1x1024 .bf16) (v479 : FVec F S1x1024 .bf16) (v514 : FVec F S4x128 .f32) (v522 : FVec F S4x128 .f32) (hw1 : k0_pay35 v122 v151 v477 v479 v514 v522 (commV m c 0 3 1) (xhalf m c 0) = outBlk m c 0) {Ψ} :
    Env m K ⊢ iprop((landed m c 0 2) -∗ (inDone m c 0) -∗ (inDone m c 1) -∗ (ovRes c 0) -∗ ((landed m c 0 2 ∗ inDone m c 0 ∗ inDone m c 1 ∗ ovRdy m c 0) -∗ Ψ (⟨⟩))
      -∗ run c (k0_part20 (F := F) xM (Memref.isWhole_whole _) gM (Memref.isWhole_whole _) bM (Memref.isWhole_whole _) oM (Memref.isWhole_whole _) xvM (Memref.isWhole_whole _) gvM (Memref.isWhole_whole _) bvM (Memref.isWhole_whole _) ovM (Memref.isWhole_whole _) cmM (Memref.isWhole_whole _) cc0_scratch5 cc0_scratch6 cc0_scratch7 cc0_scratch8 cc0_scratch9 v122 v151 v477 v479 v514 v522) Ψ) := by
  simp only [k0_part20_eq_skeleton]
  unfold k0_part20_skel
  simp only [semSignalWord, semWaitWord, Prog.lift, Prog.bind_op, Prog.bind_ret, Prog.pure_eq_ret, wp_deviceId]
  iintro #HE HV02 HI0 HI1 HO0 Hk
  iapply (op_landed m c 0 2 3 rfl 1 rfl) $$ HV02
  iintro HV02
  iapply (op_half m c 0 rfl 0 1 rfl rfl) $$ HI0 HI1
  iintro ⟨HI0, HI1⟩
  iapply (op_ov_load c 0 rfl _ (fun _ => rfl)) $$ HO0
  iintro HO0
  iapply (op_ov_store m c 0 rfl hw1) $$ HO0
  iintro HO0
  iapply (run_ret c)
  iapply Hk
  isplitl [HV02]; · iexact HV02
  isplitl [HI0]; · iexact HI0
  isplitl [HI1]; · iexact HI1
  iexact HO0

theorem part21_run (v277 : BitVec 32) (v289 : BitVec 32)  {Ψ} :
    Env m K ⊢ iprop((ovRdy m c 0) -∗ (recvRes c 1 0) -∗ (Ow c []) -∗ (recvRes c 1 1) -∗ ((outFl m c 0 ∗ Ow c [] ∗ landed m c 1 0 ∗ posV c 1 0 1 ∗ landed m c 1 1 ∗ posV c 1 1 1) -∗ Ψ (1#32))
      -∗ run c (k0_part21 (F := F) xM (Memref.isWhole_whole _) gM (Memref.isWhole_whole _) bM (Memref.isWhole_whole _) oM (Memref.isWhole_whole _) xvM (Memref.isWhole_whole _) gvM (Memref.isWhole_whole _) bvM (Memref.isWhole_whole _) ovM (Memref.isWhole_whole _) cmM (Memref.isWhole_whole _) cc0_scratch5 cc0_scratch6 cc0_scratch7 cc0_scratch8 cc0_scratch9 v277 v289) Ψ) := by
  simp only [k0_part21_eq_skeleton]
  unfold k0_part21_skel
  simp only [semSignalWord, semWaitWord, Prog.lift, Prog.bind_op, Prog.bind_ret, Prog.pure_eq_ret, wp_deviceId]
  iintro #HE HO0 HR10 HW HR11 Hk
  iapply (op_out m c 0 rfl rfl) $$ HO0
  iintro HO0
  iapply (op_recv_wait m K c 1 0 rfl) $$ HE HR10 HW
  iintro ⟨HV10, HX10, HW⟩
  iapply (op_recv_wait m K c 1 1 rfl) $$ HE HR11 HW
  iintro ⟨HV11, HX11, HW⟩
  iapply (run_ret c)
  iapply Hk
  isplitl [HO0]; · iexact HO0
  isplitl [HW]; · iexact HW
  isplitl [HV10]; · iexact HV10
  isplitl [HX10]; · iexact HX10
  isplitl [HV11]; · iexact HV11
  iexact HX11

theorem part22_run (v301 : BitVec 32) (c1_i32_592 : BitVec 32)  {Ψ} :
    Env m K ⊢ iprop((recvRes c 1 2) -∗ (Ow c []) -∗ (keptP m c 1) -∗ (landed m c 1 0) -∗ (landed m c 1 1) -∗ ((Ow c [] ∗ landed m c 1 2 ∗ posV c 1 2 1 ∗ keptP m c 1 ∗ landed m c 1 0 ∗ landed m c 1 1) -∗ Ψ (⟨k0_pay36 (commV m c 1 0 0) (commV m c 1 1 0) (commV m c 1 2 0) (commV m c 1 3 0), k0_pay37 (commV m c 1 0 1), (commV m c 1 1 1)⟩))
      -∗ run c (k0_part22 (F := F) xM (Memref.isWhole_whole _) gM (Memref.isWhole_whole _) bM (Memref.isWhole_whole _) oM (Memref.isWhole_whole _) xvM (Memref.isWhole_whole _) gvM (Memref.isWhole_whole _) bvM (Memref.isWhole_whole _) ovM (Memref.isWhole_whole _) cmM (Memref.isWhole_whole _) cc0_scratch5 cc0_scratch6 cc0_scratch7 cc0_scratch8 cc0_scratch9 v301 c1_i32_592) Ψ) := by
  simp only [k0_part22_eq_skeleton]
  unfold k0_part22_skel
  simp only [semSignalWord, semWaitWord, Prog.lift, Prog.bind_op, Prog.bind_ret, Prog.pure_eq_ret, wp_deviceId]
  iintro #HE HR12 HW HK1 HV10 HV11 Hk
  iapply (op_recv_wait m K c 1 2 rfl) $$ HE HR12 HW
  iintro ⟨HV12, HX12, HW⟩
  iapply (op_kept m c 1 0 rfl) $$ HK1
  iintro HK1
  iapply (op_landed m c 1 0 1 rfl 0 rfl) $$ HV10
  iintro HV10
  iapply (op_landed m c 1 1 2 rfl 0 rfl) $$ HV11
  iintro HV11
  iapply (op_landed m c 1 2 3 rfl 0 rfl) $$ HV12
  iintro HV12
  iapply (op_kept m c 1 1 rfl) $$ HK1
  iintro HK1
  iapply (op_landed m c 1 0 1 rfl 1 rfl) $$ HV10
  iintro HV10
  iapply (run_ret c)
  iapply Hk
  isplitl [HW]; · iexact HW
  isplitl [HV12]; · iexact HV12
  isplitl [HX12]; · iexact HX12
  isplitl [HK1]; · iexact HK1
  isplitl [HV10]; · iexact HV10
  iexact HV11

theorem part23_run (v122 : FVec F S512x128 .f32) (v151 : FVec F S512x4 .f32) (v477 : FVec F S1x1024 .bf16) (v479 : FVec F S1x1024 .bf16) (v596 : FVec F S4x128 .f32) (v598 : FVec F S4x128 .f32) (v599 : Vec F S1x1x1x4x128 .f32)  {Ψ} :
    Env m K ⊢ iprop((landed m c 1 1) -∗ (landed m c 1 2) -∗ (inDone m c 2) -∗ (inDone m c 3) -∗ (ovRes c 1) -∗ ((landed m c 1 1 ∗ landed m c 1 2 ∗ inDone m c 2 ∗ inDone m c 3 ∗ ovRes c 1) -∗ Ψ ((k0_pay38 v122 v151 v477 v479 v596 v598 v599 (commV m c 1 2 1) (commV m c 1 3 1) (xhalf m c 1))))
      -∗ run c (k0_part23 (F := F) xM (Memref.isWhole_whole _) gM (Memref.isWhole_whole _) bM (Memref.isWhole_whole _) oM (Memref.isWhole_whole _) xvM (Memref.isWhole_whole _) gvM (Memref.isWhole_whole _) bvM (Memref.isWhole_whole _) ovM (Memref.isWhole_whole _) cmM (Memref.isWhole_whole _) cc0_scratch5 cc0_scratch6 cc0_scratch7 cc0_scratch8 cc0_scratch9 v122 v151 v477 v479 v596 v598 v599) Ψ) := by
  simp only [k0_part23_eq_skeleton]
  unfold k0_part23_skel
  simp only [semSignalWord, semWaitWord, Prog.lift, Prog.bind_op, Prog.bind_ret, Prog.pure_eq_ret, wp_deviceId]
  iintro #HE HV11 HV12 HI2 HI3 HO1 Hk
  iapply (op_landed m c 1 1 2 rfl 1 rfl) $$ HV11
  iintro HV11
  iapply (op_landed m c 1 2 3 rfl 1 rfl) $$ HV12
  iintro HV12
  iapply (op_half m c 1 rfl 2 3 rfl rfl) $$ HI2 HI3
  iintro ⟨HI2, HI3⟩
  iapply (op_ov_load c 1 rfl _ (fun _ => rfl)) $$ HO1
  iintro HO1
  iapply (run_ret c)
  iapply Hk
  isplitl [HV11]; · iexact HV11
  isplitl [HV12]; · iexact HV12
  isplitl [HI2]; · iexact HI2
  isplitl [HI3]; · iexact HI3
  iexact HO1

theorem part24_run (v357 : BitVec 32) (v369 : BitVec 32) (v636 : FVec F S512x1024 .bf16) (hw1 : k0_pay39 v636 = outBlk m c 1) {Ψ} :
    Env m K ⊢ iprop((ovRes c 1) -∗ (recvRes c 2 0) -∗ (Ow c []) -∗ ((outFl m c 1 ∗ Ow c [] ∗ landed m c 2 0 ∗ posV c 2 0 1) -∗ Ψ (⟨⟩))
      -∗ run c (k0_part24 (F := F) xM (Memref.isWhole_whole _) gM (Memref.isWhole_whole _) bM (Memref.isWhole_whole _) oM (Memref.isWhole_whole _) xvM (Memref.isWhole_whole _) gvM (Memref.isWhole_whole _) bvM (Memref.isWhole_whole _) ovM (Memref.isWhole_whole _) cmM (Memref.isWhole_whole _) cc0_scratch5 cc0_scratch6 cc0_scratch7 cc0_scratch8 cc0_scratch9 v357 v369 v636) Ψ) := by
  simp only [k0_part24_eq_skeleton]
  unfold k0_part24_skel
  simp only [semSignalWord, semWaitWord, Prog.lift, Prog.bind_op, Prog.bind_ret, Prog.pure_eq_ret, wp_deviceId]
  iintro #HE HO1 HR20 HW Hk
  iapply (op_ov_store m c 1 rfl hw1) $$ HO1
  iintro HO1
  iapply (op_out m c 1 rfl rfl) $$ HO1
  iintro HO1
  iapply (op_recv_wait m K c 2 0 rfl) $$ HE HR20 HW
  iintro ⟨HV20, HX20, HW⟩
  iapply (run_ret c)
  iapply Hk
  isplitl [HO1]; · iexact HO1
  isplitl [HW]; · iexact HW
  isplitl [HV20]; · iexact HV20
  iexact HX20

theorem part25_run (v381 : BitVec 32)  {Ψ} :
    Env m K ⊢ iprop((recvRes c 2 1) -∗ (Ow c []) -∗ (recvRes c 2 2) -∗ (keptP m c 2) -∗ (landed m c 2 0) -∗ ((Ow c [] ∗ landed m c 2 1 ∗ posV c 2 1 1 ∗ landed m c 2 2 ∗ posV c 2 2 1 ∗ keptP m c 2 ∗ landed m c 2 0) -∗ Ψ ((k0_pay40 (commV m c 2 0 0) (commV m c 2 1 0) (commV m c 2 2 0) (commV m c 2 3 0))))
      -∗ run c (k0_part25 (F := F) xM (Memref.isWhole_whole _) gM (Memref.isWhole_whole _) bM (Memref.isWhole_whole _) oM (Memref.isWhole_whole _) xvM (Memref.isWhole_whole _) gvM (Memref.isWhole_whole _) bvM (Memref.isWhole_whole _) ovM (Memref.isWhole_whole _) cmM (Memref.isWhole_whole _) cc0_scratch5 cc0_scratch6 cc0_scratch7 cc0_scratch8 cc0_scratch9 v381) Ψ) := by
  simp only [k0_part25_eq_skeleton]
  unfold k0_part25_skel
  simp only [semSignalWord, semWaitWord, Prog.lift, Prog.bind_op, Prog.bind_ret, Prog.pure_eq_ret, wp_deviceId]
  iintro #HE HR21 HW HR22 HK2 HV20 Hk
  iapply (op_recv_wait m K c 2 1 rfl) $$ HE HR21 HW
  iintro ⟨HV21, HX21, HW⟩
  iapply (op_recv_wait m K c 2 2 rfl) $$ HE HR22 HW
  iintro ⟨HV22, HX22, HW⟩
  iapply (op_kept m c 2 0 rfl) $$ HK2
  iintro HK2
  iapply (op_landed m c 2 0 1 rfl 0 rfl) $$ HV20
  iintro HV20
  iapply (op_landed m c 2 1 2 rfl 0 rfl) $$ HV21
  iintro HV21
  iapply (op_landed m c 2 2 3 rfl 0 rfl) $$ HV22
  iintro HV22
  iapply (run_ret c)
  iapply Hk
  isplitl [HW]; · iexact HW
  isplitl [HV21]; · iexact HV21
  isplitl [HX21]; · iexact HX21
  isplitl [HV22]; · iexact HV22
  isplitl [HX22]; · iexact HX22
  isplitl [HK2]; · iexact HK2
  iexact HV20

theorem part26_run (v122 : FVec F S512x128 .f32) (v151 : FVec F S512x4 .f32) (v678 : FVec F S4x128 .f32)  {Ψ} :
    Env m K ⊢ iprop((keptP m c 2) -∗ (landed m c 2 0) -∗ (landed m c 2 1) -∗ (landed m c 2 2) -∗ (inDone m c 4) -∗ (inDone m c 5) -∗ ((keptP m c 2 ∗ landed m c 2 0 ∗ landed m c 2 1 ∗ landed m c 2 2 ∗ inDone m c 4 ∗ inDone m c 5) -∗ Ψ (⟨k0_pay42 v122 v151 v678 (commV m c 2 0 1) (commV m c 2 1 1) (commV m c 2 2 1) (commV m c 2 3 1), k0_pay43 v122 v151 v678 (xhalf m c 2)⟩))
      -∗ run c (k0_part26 (F := F) xM (Memref.isWhole_whole _) gM (Memref.isWhole_whole _) bM (Memref.isWhole_whole _) oM (Memref.isWhole_whole _) xvM (Memref.isWhole_whole _) gvM (Memref.isWhole_whole _) bvM (Memref.isWhole_whole _) ovM (Memref.isWhole_whole _) cmM (Memref.isWhole_whole _) cc0_scratch5 cc0_scratch6 cc0_scratch7 cc0_scratch8 cc0_scratch9 v122 v151 v678) Ψ) := by
  simp only [k0_part26_eq_skeleton]
  unfold k0_part26_skel
  simp only [semSignalWord, semWaitWord, Prog.lift, Prog.bind_op, Prog.bind_ret, Prog.pure_eq_ret, wp_deviceId]
  iintro #HE HK2 HV20 HV21 HV22 HI4 HI5 Hk
  iapply (op_kept m c 2 1 rfl) $$ HK2
  iintro HK2
  iapply (op_landed m c 2 0 1 rfl 1 rfl) $$ HV20
  iintro HV20
  iapply (op_landed m c 2 1 2 rfl 1 rfl) $$ HV21
  iintro HV21
  iapply (op_landed m c 2 2 3 rfl 1 rfl) $$ HV22
  iintro HV22
  iapply (op_half m c 2 rfl 4 5 rfl rfl) $$ HI4 HI5
  iintro ⟨HI4, HI5⟩
  iapply (run_ret c)
  iapply Hk
  isplitl [HK2]; · iexact HK2
  isplitl [HV20]; · iexact HV20
  isplitl [HV21]; · iexact HV21
  isplitl [HV22]; · iexact HV22
  isplitl [HI4]; · iexact HI4
  iexact HI5

theorem part27_run (v437 : BitVec 32) (v449 : BitVec 32) (v477 : FVec F S1x1024 .bf16) (v479 : FVec F S1x1024 .bf16) (v706 : FVec F S512x1 .f32) (v711 : FVec F S512x1024 .bf16) (hw1 : k0_pay44 v477 v479 v706 v711 = outBlk m c 2) {Ψ} :
    Env m K ⊢ iprop((ovRes c 2) -∗ (recvRes c 3 0) -∗ (Ow c []) -∗ ((outFl m c 2 ∗ Ow c [] ∗ landed m c 3 0 ∗ posV c 3 0 1) -∗ Ψ (⟨⟩))
      -∗ run c (k0_part27 (F := F) xM (Memref.isWhole_whole _) gM (Memref.isWhole_whole _) bM (Memref.isWhole_whole _) oM (Memref.isWhole_whole _) xvM (Memref.isWhole_whole _) gvM (Memref.isWhole_whole _) bvM (Memref.isWhole_whole _) ovM (Memref.isWhole_whole _) cmM (Memref.isWhole_whole _) cc0_scratch5 cc0_scratch6 cc0_scratch7 cc0_scratch8 cc0_scratch9 v437 v449 v477 v479 v706 v711) Ψ) := by
  simp only [k0_part27_eq_skeleton]
  unfold k0_part27_skel
  simp only [semSignalWord, semWaitWord, Prog.lift, Prog.bind_op, Prog.bind_ret, Prog.pure_eq_ret, wp_deviceId]
  iintro #HE HO2 HR30 HW Hk
  iapply (op_ov_load c 2 rfl _ (fun _ => rfl)) $$ HO2
  iintro HO2
  iapply (op_ov_store m c 2 rfl hw1) $$ HO2
  iintro HO2
  iapply (op_out m c 2 rfl rfl) $$ HO2
  iintro HO2
  iapply (op_recv_wait m K c 3 0 rfl) $$ HE HR30 HW
  iintro ⟨HV30, HX30, HW⟩
  iapply (run_ret c)
  iapply Hk
  isplitl [HO2]; · iexact HO2
  isplitl [HW]; · iexact HW
  isplitl [HV30]; · iexact HV30
  iexact HX30

theorem part28_run (v461 : BitVec 32)  {Ψ} :
    Env m K ⊢ iprop((recvRes c 3 1) -∗ (Ow c []) -∗ (recvRes c 3 2) -∗ (keptP m c 3) -∗ (landed m c 3 0) -∗ ((Ow c [] ∗ landed m c 3 1 ∗ posV c 3 1 1 ∗ landed m c 3 2 ∗ posV c 3 2 1 ∗ keptP m c 3 ∗ landed m c 3 0) -∗ Ψ (⟨k0_pay45 (commV m c 3 0 0) (commV m c 3 1 0), k0_pay46 (commV m c 3 2 0)⟩))
      -∗ run c (k0_part28 (F := F) xM (Memref.isWhole_whole _) gM (Memref.isWhole_whole _) bM (Memref.isWhole_whole _) oM (Memref.isWhole_whole _) xvM (Memref.isWhole_whole _) gvM (Memref.isWhole_whole _) bvM (Memref.isWhole_whole _) ovM (Memref.isWhole_whole _) cmM (Memref.isWhole_whole _) cc0_scratch5 cc0_scratch6 cc0_scratch7 cc0_scratch8 cc0_scratch9 v461) Ψ) := by
  simp only [k0_part28_eq_skeleton]
  unfold k0_part28_skel
  simp only [semSignalWord, semWaitWord, Prog.lift, Prog.bind_op, Prog.bind_ret, Prog.pure_eq_ret, wp_deviceId]
  iintro #HE HR31 HW HR32 HK3 HV30 Hk
  iapply (op_recv_wait m K c 3 1 rfl) $$ HE HR31 HW
  iintro ⟨HV31, HX31, HW⟩
  iapply (op_recv_wait m K c 3 2 rfl) $$ HE HR32 HW
  iintro ⟨HV32, HX32, HW⟩
  iapply (op_kept m c 3 0 rfl) $$ HK3
  iintro HK3
  iapply (op_landed m c 3 0 1 rfl 0 rfl) $$ HV30
  iintro HV30
  iapply (op_landed m c 3 1 2 rfl 0 rfl) $$ HV31
  iintro HV31
  iapply (run_ret c)
  iapply Hk
  isplitl [HW]; · iexact HW
  isplitl [HV31]; · iexact HV31
  isplitl [HX31]; · iexact HX31
  isplitl [HV32]; · iexact HV32
  isplitl [HX32]; · iexact HX32
  isplitl [HK3]; · iexact HK3
  iexact HV30

theorem part29_run (v122 : FVec F S512x128 .f32) (v151 : FVec F S512x4 .f32) (v754 : FVec F S4x128 .f32) (v756 : FVec F S4x128 .f32)  {Ψ} :
    Env m K ⊢ iprop((landed m c 3 2) -∗ (keptP m c 3) -∗ (landed m c 3 0) -∗ (landed m c 3 1) -∗ ((landed m c 3 2 ∗ keptP m c 3 ∗ landed m c 3 0 ∗ landed m c 3 1) -∗ Ψ (⟨k0_pay47 v122 v151 v754 v756 (commV m c 3 3 0), k0_pay48 v122 v151 v754 v756 (commV m c 3 3 0) (commV m c 3 0 1) (commV m c 3 1 1) (commV m c 3 2 1) (commV m c 3 3 1)⟩))
      -∗ run c (k0_part29 (F := F) xM (Memref.isWhole_whole _) gM (Memref.isWhole_whole _) bM (Memref.isWhole_whole _) oM (Memref.isWhole_whole _) xvM (Memref.isWhole_whole _) gvM (Memref.isWhole_whole _) bvM (Memref.isWhole_whole _) ovM (Memref.isWhole_whole _) cmM (Memref.isWhole_whole _) cc0_scratch5 cc0_scratch6 cc0_scratch7 cc0_scratch8 cc0_scratch9 v122 v151 v754 v756) Ψ) := by
  simp only [k0_part29_eq_skeleton]
  unfold k0_part29_skel
  simp only [semSignalWord, semWaitWord, Prog.lift, Prog.bind_op, Prog.bind_ret, Prog.pure_eq_ret, wp_deviceId]
  iintro #HE HV32 HK3 HV30 HV31 Hk
  iapply (op_landed m c 3 2 3 rfl 0 rfl) $$ HV32
  iintro HV32
  iapply (op_kept m c 3 1 rfl) $$ HK3
  iintro HK3
  iapply (op_landed m c 3 0 1 rfl 1 rfl) $$ HV30
  iintro HV30
  iapply (op_landed m c 3 1 2 rfl 1 rfl) $$ HV31
  iintro HV31
  iapply (op_landed m c 3 2 3 rfl 1 rfl) $$ HV32
  iintro HV32
  iapply (run_ret c)
  iapply Hk
  isplitl [HV32]; · iexact HV32
  isplitl [HK3]; · iexact HK3
  isplitl [HV30]; · iexact HV30
  iexact HV31

theorem part30_run (v477 : FVec F S1x1024 .bf16) (v479 : FVec F S1x1024 .bf16) (v777 : FVec F S512x1 .f32) (v785 : FVec F S512x1 .f32) (hw1 : k0_pay49 v477 v479 v777 v785 (xhalf m c 3) = outBlk m c 3) {Ψ} :
    Env m K ⊢ iprop((inDone m c 6) -∗ (inDone m c 7) -∗ (ovRes c 3) -∗ (outFl m c 0) -∗ (Ow c []) -∗ (outFl m c 1) -∗ ((inDone m c 6 ∗ inDone m c 7 ∗ outFl m c 3 ∗ outDone m c 0 ∗ Ow c [] ∗ outDone m c 1) -∗ Ψ (⟨⟩))
      -∗ run c (k0_part30 (F := F) xM (Memref.isWhole_whole _) gM (Memref.isWhole_whole _) bM (Memref.isWhole_whole _) oM (Memref.isWhole_whole _) xvM (Memref.isWhole_whole _) gvM (Memref.isWhole_whole _) bvM (Memref.isWhole_whole _) ovM (Memref.isWhole_whole _) cmM (Memref.isWhole_whole _) cc0_scratch5 cc0_scratch6 cc0_scratch7 cc0_scratch8 cc0_scratch9 v477 v479 v777 v785) Ψ) := by
  simp only [k0_part30_eq_skeleton]
  unfold k0_part30_skel
  simp only [semSignalWord, semWaitWord, Prog.lift, Prog.bind_op, Prog.bind_ret, Prog.pure_eq_ret, wp_deviceId]
  iintro #HE HI6 HI7 HO3 HO0 HW HO1 Hk
  iapply (op_half m c 3 rfl 6 7 rfl rfl) $$ HI6 HI7
  iintro ⟨HI6, HI7⟩
  iapply (op_ov_load c 3 rfl _ (fun _ => rfl)) $$ HO3
  iintro HO3
  iapply (op_ov_store m c 3 rfl hw1) $$ HO3
  iintro HO3
  iapply (op_out m c 3 rfl rfl) $$ HO3
  iintro HO3
  iapply (op_out_wait m K c 0 rfl) $$ HE HO0 HW
  iintro ⟨HO0, HW⟩
  iapply (op_out_wait m K c 1 rfl) $$ HE HO1 HW
  iintro ⟨HO1, HW⟩
  iapply (run_ret c)
  iapply Hk
  isplitl [HI6]; · iexact HI6
  isplitl [HI7]; · iexact HI7
  isplitl [HO3]; · iexact HO3
  isplitl [HO0]; · iexact HO0
  isplitl [HW]; · iexact HW
  iexact HO1

theorem part31_run   {Ψ} :
    Env m K ⊢ iprop((outFl m c 2) -∗ (Ow c []) -∗ (outFl m c 3) -∗ (sendFl c 0 0) -∗ (posS c 0 0 0) -∗ (sendFl c 0 1) -∗ (posS c 0 1 0) -∗ ((outDone m c 2 ∗ Ow c [] ∗ outDone m c 3 ∗ posS c 0 0 1 ∗ lent m c 0 0 ∗ posS c 0 1 1 ∗ lent m c 0 1) -∗ Ψ (⟨⟩))
      -∗ run c (k0_part31 (F := F) xM (Memref.isWhole_whole _) gM (Memref.isWhole_whole _) bM (Memref.isWhole_whole _) oM (Memref.isWhole_whole _) xvM (Memref.isWhole_whole _) gvM (Memref.isWhole_whole _) bvM (Memref.isWhole_whole _) ovM (Memref.isWhole_whole _) cmM (Memref.isWhole_whole _) cc0_scratch5 cc0_scratch6 cc0_scratch7 cc0_scratch8 cc0_scratch9 ) Ψ) := by
  simp only [k0_part31_eq_skeleton]
  unfold k0_part31_skel
  simp only [semSignalWord, semWaitWord, Prog.lift, Prog.bind_op, Prog.bind_ret, Prog.pure_eq_ret, wp_deviceId]
  iintro #HE HO2 HW HO3 HF00 HP00 HF01 HP01 Hk
  iapply (op_out_wait m K c 2 rfl) $$ HE HO2 HW
  iintro ⟨HO2, HW⟩
  iapply (op_out_wait m K c 3 rfl) $$ HE HO3 HW
  iintro ⟨HO3, HW⟩
  iapply (op_send_wait m K c 0 0 rfl) $$ HE HF00 HP00 HW
  iintro ⟨HL00, HP00, HW⟩
  iapply (op_send_wait m K c 0 1 rfl) $$ HE HF01 HP01 HW
  iintro ⟨HL01, HP01, HW⟩
  iapply (run_ret c)
  iapply Hk
  isplitl [HO2]; · iexact HO2
  isplitl [HW]; · iexact HW
  isplitl [HO3]; · iexact HO3
  isplitl [HP00]; · iexact HP00
  isplitl [HL00]; · iexact HL00
  isplitl [HP01]; · iexact HP01
  iexact HL01

theorem part32_run   {Ψ} :
    Env m K ⊢ iprop((sendFl c 0 2) -∗ (posS c 0 2 0) -∗ (Ow c []) -∗ (sendFl c 1 0) -∗ (posS c 1 0 0) -∗ ((posS c 0 2 1 ∗ Ow c [] ∗ lent m c 0 2 ∗ posS c 1 0 1 ∗ lent m c 1 0) -∗ Ψ (⟨⟩))
      -∗ run c (k0_part32 (F := F) xM (Memref.isWhole_whole _) gM (Memref.isWhole_whole _) bM (Memref.isWhole_whole _) oM (Memref.isWhole_whole _) xvM (Memref.isWhole_whole _) gvM (Memref.isWhole_whole _) bvM (Memref.isWhole_whole _) ovM (Memref.isWhole_whole _) cmM (Memref.isWhole_whole _) cc0_scratch5 cc0_scratch6 cc0_scratch7 cc0_scratch8 cc0_scratch9 ) Ψ) := by
  simp only [k0_part32_eq_skeleton]
  unfold k0_part32_skel
  simp only [semSignalWord, semWaitWord, Prog.lift, Prog.bind_op, Prog.bind_ret, Prog.pure_eq_ret, wp_deviceId]
  iintro #HE HF02 HP02 HW HF10 HP10 Hk
  iapply (op_send_wait m K c 0 2 rfl) $$ HE HF02 HP02 HW
  iintro ⟨HL02, HP02, HW⟩
  iapply (op_send_wait m K c 1 0 rfl) $$ HE HF10 HP10 HW
  iintro ⟨HL10, HP10, HW⟩
  iapply (run_ret c)
  iapply Hk
  isplitl [HP02]; · iexact HP02
  isplitl [HW]; · iexact HW
  isplitl [HL02]; · iexact HL02
  isplitl [HP10]; · iexact HP10
  iexact HL10

theorem part33_run   {Ψ} :
    Env m K ⊢ iprop((sendFl c 1 1) -∗ (posS c 1 1 0) -∗ (Ow c []) -∗ (sendFl c 1 2) -∗ (posS c 1 2 0) -∗ (sendFl c 2 0) -∗ (posS c 2 0 0) -∗ ((posS c 1 1 1 ∗ Ow c [] ∗ lent m c 1 1 ∗ posS c 1 2 1 ∗ lent m c 1 2 ∗ posS c 2 0 1 ∗ lent m c 2 0) -∗ Ψ (⟨⟩))
      -∗ run c (k0_part33 (F := F) xM (Memref.isWhole_whole _) gM (Memref.isWhole_whole _) bM (Memref.isWhole_whole _) oM (Memref.isWhole_whole _) xvM (Memref.isWhole_whole _) gvM (Memref.isWhole_whole _) bvM (Memref.isWhole_whole _) ovM (Memref.isWhole_whole _) cmM (Memref.isWhole_whole _) cc0_scratch5 cc0_scratch6 cc0_scratch7 cc0_scratch8 cc0_scratch9 ) Ψ) := by
  simp only [k0_part33_eq_skeleton]
  unfold k0_part33_skel
  simp only [semSignalWord, semWaitWord, Prog.lift, Prog.bind_op, Prog.bind_ret, Prog.pure_eq_ret, wp_deviceId]
  iintro #HE HF11 HP11 HW HF12 HP12 HF20 HP20 Hk
  iapply (op_send_wait m K c 1 1 rfl) $$ HE HF11 HP11 HW
  iintro ⟨HL11, HP11, HW⟩
  iapply (op_send_wait m K c 1 2 rfl) $$ HE HF12 HP12 HW
  iintro ⟨HL12, HP12, HW⟩
  iapply (op_send_wait m K c 2 0 rfl) $$ HE HF20 HP20 HW
  iintro ⟨HL20, HP20, HW⟩
  iapply (run_ret c)
  iapply Hk
  isplitl [HP11]; · iexact HP11
  isplitl [HW]; · iexact HW
  isplitl [HL11]; · iexact HL11
  isplitl [HP12]; · iexact HP12
  isplitl [HL12]; · iexact HL12
  isplitl [HP20]; · iexact HP20
  iexact HL20

theorem part34_run   {Ψ} :
    Env m K ⊢ iprop((sendFl c 2 1) -∗ (posS c 2 1 0) -∗ (Ow c []) -∗ (sendFl c 2 2) -∗ (posS c 2 2 0) -∗ (sendFl c 3 0) -∗ (posS c 3 0 0) -∗ ((posS c 2 1 1 ∗ Ow c [] ∗ lent m c 2 1 ∗ posS c 2 2 1 ∗ lent m c 2 2 ∗ posS c 3 0 1 ∗ lent m c 3 0) -∗ Ψ (⟨⟩))
      -∗ run c (k0_part34 (F := F) xM (Memref.isWhole_whole _) gM (Memref.isWhole_whole _) bM (Memref.isWhole_whole _) oM (Memref.isWhole_whole _) xvM (Memref.isWhole_whole _) gvM (Memref.isWhole_whole _) bvM (Memref.isWhole_whole _) ovM (Memref.isWhole_whole _) cmM (Memref.isWhole_whole _) cc0_scratch5 cc0_scratch6 cc0_scratch7 cc0_scratch8 cc0_scratch9 ) Ψ) := by
  simp only [k0_part34_eq_skeleton]
  unfold k0_part34_skel
  simp only [semSignalWord, semWaitWord, Prog.lift, Prog.bind_op, Prog.bind_ret, Prog.pure_eq_ret, wp_deviceId]
  iintro #HE HF21 HP21 HW HF22 HP22 HF30 HP30 Hk
  iapply (op_send_wait m K c 2 1 rfl) $$ HE HF21 HP21 HW
  iintro ⟨HL21, HP21, HW⟩
  iapply (op_send_wait m K c 2 2 rfl) $$ HE HF22 HP22 HW
  iintro ⟨HL22, HP22, HW⟩
  iapply (op_send_wait m K c 3 0 rfl) $$ HE HF30 HP30 HW
  iintro ⟨HL30, HP30, HW⟩
  iapply (run_ret c)
  iapply Hk
  isplitl [HP21]; · iexact HP21
  isplitl [HW]; · iexact HW
  isplitl [HL21]; · iexact HL21
  isplitl [HP22]; · iexact HP22
  isplitl [HL22]; · iexact HL22
  isplitl [HP30]; · iexact HP30
  iexact HL30

end Cert.NormProof
-- ==== Proof.Body.lean ====
/-
The body whole: its parts in order, from what a device starts with to what it ends with.
-/
module

public import proofs.«01_k».proof.Proof.BodyB

@[expose] public section

set_option maxRecDepth 65536

noncomputable section

namespace Cert.NormProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CIx → ℕ) (c : Dev nD)

/-- What a device's body starts from. -/
def bodyIn : sProp 𝕄 :=
  iprop((sendRes c 0 0 ∗ sendRes c 0 1 ∗ sendRes c 0 2 ∗ sendRes c 1 0 ∗ sendRes c 1 1 ∗ sendRes c 1 2 ∗ sendRes c 2 0 ∗ sendRes c 2 1 ∗ sendRes c 2 2 ∗ sendRes c 3 0 ∗ sendRes c 3 1 ∗ sendRes c 3 2)
    ∗ (bRes m c)
    ∗ (cred (tallyAt (barCell c) () 3))
    ∗ (gRes m c)
    ∗ (inRes m c 0 ∗ inRes m c 1 ∗ inRes m c 2 ∗ inRes m c 3 ∗ inRes m c 4 ∗ inRes m c 5 ∗ inRes m c 6 ∗ inRes m c 7)
    ∗ (ovRes c 0 ∗ ovRes c 1 ∗ ovRes c 2 ∗ ovRes c 3)
    ∗ (posS c 0 0 0 ∗ posS c 0 1 0 ∗ posS c 0 2 0 ∗ posS c 1 0 0 ∗ posS c 1 1 0 ∗ posS c 1 2 0 ∗ posS c 2 0 0 ∗ posS c 2 1 0 ∗ posS c 2 2 0 ∗ posS c 3 0 0 ∗ posS c 3 1 0 ∗ posS c 3 2 0)
    ∗ (recvRes c 0 0 ∗ recvRes c 0 1 ∗ recvRes c 0 2 ∗ recvRes c 1 0 ∗ recvRes c 1 1 ∗ recvRes c 1 2 ∗ recvRes c 2 0 ∗ recvRes c 2 1 ∗ recvRes c 2 2 ∗ recvRes c 3 0 ∗ recvRes c 3 1 ∗ recvRes c 3 2)
    ∗ (sub c 0 0 0 ∗ sub c 0 0 1 ∗ sub c 0 1 0 ∗ sub c 0 1 1 ∗ sub c 1 0 0 ∗ sub c 1 0 1 ∗ sub c 1 1 0 ∗ sub c 1 1 1 ∗ sub c 2 0 0 ∗ sub c 2 0 1 ∗ sub c 2 1 0 ∗ sub c 2 1 1 ∗ sub c 3 0 0 ∗ sub c 3 0 1 ∗ sub c 3 1 0 ∗ sub c 3 1 1)
    ∗ (dutyTok ER (barCell (peer c 0)) 0 (Fin.rev 0) ∗ dutyTok ER (barCell (peer c 1)) 0 (Fin.rev 1) ∗ dutyTok ER (barCell (peer c 2)) 0 (Fin.rev 2))
    ∗ (Ow c ((bill c).drop 0))
    ∗ ((land c 0 (Fin.rev 0) ∗ land c 1 (Fin.rev 0) ∗ land c 2 (Fin.rev 0) ∗ land c 3 (Fin.rev 0)) ∗ (land c 0 (Fin.rev 1) ∗ land c 1 (Fin.rev 1) ∗ land c 2 (Fin.rev 1) ∗ land c 3 (Fin.rev 1)) ∗ (land c 0 (Fin.rev 2) ∗ land c 1 (Fin.rev 2) ∗ land c 2 (Fin.rev 2) ∗ land c 3 (Fin.rev 2)))
    ∗ (posB c 0))

/-- What it ends with. -/
def bodyOut : sProp 𝕄 :=
  iprop((bDone m c)
    ∗ (gDone m c)
    ∗ (inDone m c 0 ∗ inDone m c 1 ∗ inDone m c 2 ∗ inDone m c 3 ∗ inDone m c 4 ∗ inDone m c 5 ∗ inDone m c 6 ∗ inDone m c 7)
    ∗ (keptP m c 0 ∗ keptP m c 1 ∗ keptP m c 2 ∗ keptP m c 3)
    ∗ (lent m c 0 0 ∗ lent m c 0 1 ∗ lent m c 0 2 ∗ lent m c 1 0 ∗ lent m c 1 1 ∗ lent m c 1 2 ∗ lent m c 2 0 ∗ lent m c 2 1 ∗ lent m c 2 2 ∗ lent m c 3 0 ∗ lent m c 3 1 ∗ lent m c 3 2)
    ∗ (outDone m c 0 ∗ outDone m c 1 ∗ outDone m c 2 ∗ outDone m c 3)
    ∗ (posS c 0 0 1 ∗ posS c 0 1 1 ∗ posS c 0 2 1 ∗ posS c 1 0 1 ∗ posS c 1 1 1 ∗ posS c 1 2 1 ∗ posS c 2 0 1 ∗ posS c 2 1 1 ∗ posS c 2 2 1 ∗ posS c 3 0 1 ∗ posS c 3 1 1 ∗ posS c 3 2 1)
    ∗ (landed m c 0 0 ∗ landed m c 0 1 ∗ landed m c 0 2 ∗ landed m c 1 0 ∗ landed m c 1 1 ∗ landed m c 1 2 ∗ landed m c 2 0 ∗ landed m c 2 1 ∗ landed m c 2 2 ∗ landed m c 3 0 ∗ landed m c 3 1 ∗ landed m c 3 2)
    ∗ (Ow c [])
    ∗ (posV c 0 0 1 ∗ posV c 0 1 1 ∗ posV c 0 2 1 ∗ posV c 1 0 1 ∗ posV c 1 1 1 ∗ posV c 1 2 1 ∗ posV c 2 0 1 ∗ posV c 2 1 1 ∗ posV c 2 2 1 ∗ posV c 3 0 1 ∗ posV c 3 1 1 ∗ posV c 3 2 1)
    ∗ (posB c 1))

theorem barPay_out (j : Fin 3) : (barPay (F := F) c j : sProp 𝕄) ⊢ iprop(land (peer c j) 0 j ∗ land (peer c j) 1 j ∗ land (peer c j) 2 j ∗ land (peer c j) 3 j) := by
  unfold barPay; exact BI.Entails.refl _

theorem run_bind {α β : Type} {p : Prog (TpuEff nD τ sig (Elt F) Λ₀ .tc) α} {k : α → Prog (TpuEff nD τ sig (Elt F) Λ₀ .tc) β} {Q : β → sProp 𝕄} :
    run c p (fun a => run c (k a) Q) ⊢ run c (p >>= k) Q := by
  show _ ⊢ wp _ _ _ (p >>= k) _
  rw [wp_bind]

theorem part4_run (v73 : IVec S256x2 32) (v76 : IVec S256x2 32) (v90 : IVec S256x2 1) (v94 : IVec S256x2 1) {Ψ} : (Ψ (⟨k0_pay5 (F := F) v73 v76 v90 v94, k0_pay6 (F := F), (iota .tc S512x4 32 [1] iota_S512x4_d1_w32), k0_pay7, k0_pay8, k0_pay9⟩) : sProp 𝕄)
    ⊢ run c (k0_part4 (F := F) xM (Memref.isWhole_whole _) gM (Memref.isWhole_whole _) bM (Memref.isWhole_whole _) oM (Memref.isWhole_whole _) xvM (Memref.isWhole_whole _) gvM (Memref.isWhole_whole _) bvM (Memref.isWhole_whole _) ovM (Memref.isWhole_whole _) cmM (Memref.isWhole_whole _) cc0_scratch5 cc0_scratch6 cc0_scratch7 cc0_scratch8 cc0_scratch9 v73 v76 v90 v94) Ψ := by
  simp only [k0_part4_eq_skeleton]
  unfold k0_part4_skel
  exact run_ret c

theorem body_run {Ψ : PUnit → sProp 𝕄} : Env m K ⊢ iprop(bodyIn m c -∗ (bodyOut m c -∗ Ψ ⟨⟩)
    -∗ run c (cc0_body (F := F) xM (Memref.isWhole_whole _) gM (Memref.isWhole_whole _) bM (Memref.isWhole_whole _) oM (Memref.isWhole_whole _) xvM (Memref.isWhole_whole _) gvM (Memref.isWhole_whole _) bvM (Memref.isWhole_whole _) ovM (Memref.isWhole_whole _) cmM (Memref.isWhole_whole _) cc0_scratch5 cc0_scratch6 cc0_scratch7 cc0_scratch8 cc0_scratch9) Ψ) := by
  simp only [cc0_body_eq_skeleton]
  unfold cc0_body_skel
  unfold bodyIn
  iintro #HE ⟨⟨HA00, HA01, HA02, HA10, HA11, HA12, HA20, HA21, HA22, HA30, HA31, HA32⟩, HB, HC, HG, ⟨HI0, HI1, HI2, HI3, HI4, HI5, HI6, HI7⟩, ⟨HO0, HO1, HO2, HO3⟩, ⟨HP00, HP01, HP02, HP10, HP11, HP12, HP20, HP21, HP22, HP30, HP31, HP32⟩, ⟨HR00, HR01, HR02, HR10, HR11, HR12, HR20, HR21, HR22, HR30, HR31, HR32⟩, ⟨HS000, HS001, HS010, HS011, HS100, HS101, HS110, HS111, HS200, HS201, HS210, HS211, HS300, HS301, HS310, HS311⟩, ⟨HT0, HT1, HT2⟩, HW, ⟨HY0, HY1, HY2⟩, HZ⟩ Hk
  iapply (run_bind c)
  simp only [k0_part35_eq_skeleton]
  unfold k0_part35_skel
  dsimp only
  iapply (run_bind c)
  iapply (part1_run m K c  ) $$ HE HI0 HI1 HI2 HI3 HI4
  iintro ⟨HI0, HI1, HI2, HI3, HI4⟩
  try dsimp only
  iapply (run_bind c)
  iapply (part2_run m K c _ ) $$ HE HI5 HI6 HI7 HG HB HT0 HY0 HW HT1 HY1
  iintro ⟨HI5, HI6, HI7, HG, HB, HW⟩
  try dsimp only
  iapply (run_bind c)
  iapply (part3_run m K c _ ) $$ HE HT2 HY2 HW
  iintro HW
  try dsimp only
  iapply (run_bind c)
  iapply (part4_run c ((iota .tc S256x2 32 [1] iota_S256x2_d1_w32)) k0_pay2 k0_pay3 k0_pay4)
  try dsimp only
  iapply (run_bind c)
  iapply (part5_run m K c (k0_pay1 (F := F)) selC ((iota .tc S512x4 32 [1] iota_S512x4_d1_w32)) k0_pay7 k0_pay8 k0_pay9 rfl rfl) $$ HE HI0 HW HS000 HS010
  iintro ⟨HI0, HW, HS000, HS010⟩
  try dsimp only
  iapply (run_bind c)
  iapply (part6_run m K c _ (k0_pay1 (F := F)) selC rfl rfl) $$ HE HI1 HW HS001 HS011 HC HZ
  iintro ⟨HI1, HW, HS001, HS011, HZ, HE0, HE1, HE2⟩
  try dsimp only
  ihave HQ := (barPay_out c 0) $$ HE0
  icases HQ with ⟨HD00, HD10, HD20, HD30⟩
  ihave HQ := (barPay_out c 1) $$ HE1
  icases HQ with ⟨HD01, HD11, HD21, HD31⟩
  ihave HQ := (barPay_out c 2) $$ HE2
  icases HQ with ⟨HD02, HD12, HD22, HD32⟩
  iapply (run_bind c)
  iapply (part7_run m K c _ _ ) $$ HE HS000 HS001 HS010 HS011 HA00 HD00 HW HA01 HD01
  iintro ⟨HL02, HK0, HW, HF00, HF01⟩
  try dsimp only
  iapply (run_bind c)
  iapply (part8_run m K c (k0_pay1 (F := F)) selC _ rfl) $$ HE HA02 HL02 HD02 HW HI2 HS100
  iintro ⟨HW, HF02, HI2, HS100⟩
  try dsimp only
  iapply (run_bind c)
  iapply (part9_run m K c _ (k0_pay1 (F := F)) selC ((k0_pay16 (k0_pay1 (F := F)) selC (xchunk m c 2))) rfl rfl rfl) $$ HE HS110 HI3 HW HS101 HS111
  iintro ⟨HS110, HI3, HW, HS101, HS111⟩
  try dsimp only
  iapply (run_bind c)
  iapply (part10_run m K c _ _ ) $$ HE HS100 HS101 HS110 HS111 HA10 HD10 HW HA11 HD11
  iintro ⟨HL12, HK1, HW, HF10, HF11⟩
  try dsimp only
  iapply (run_bind c)
  iapply (part11_run m K c (k0_pay1 (F := F)) selC _ rfl) $$ HE HA12 HL12 HD12 HW HI4 HS200
  iintro ⟨HW, HF12, HI4, HS200⟩
  try dsimp only
  iapply (run_bind c)
  iapply (part12_run m K c _ (k0_pay1 (F := F)) selC (k0_pay21 (k0_pay1 (F := F)) (xchunk m c 4)) ((constant S2x128 .f32 0x00000000#32)) rfl rfl rfl) $$ HE HS210 HI5 HW HS201 HS211
  iintro ⟨HS210, HI5, HW, HS201, HS211⟩
  try dsimp only
  iapply (run_bind c)
  iapply (part13_run m K c _ _ ) $$ HE HS200 HS201 HS210 HS211 HA20 HD20 HW HA21 HD21
  iintro ⟨HL22, HK2, HW, HF20, HF21⟩
  try dsimp only
  iapply (run_bind c)
  iapply (part14_run m K c (k0_pay1 (F := F)) selC _ ) $$ HE HA22 HL22 HD22 HW HI6 HS300
  iintro ⟨HW, HF22, HI6, HS300⟩
  try dsimp only
  iapply (run_bind c)
  iapply (part15_run m K c (k0_pay1 (F := F)) selC (k0_pay25 (xchunk m c 6)) (k0_pay26 (k0_pay1 (F := F)) selC (xchunk m c 6)) rfl rfl rfl) $$ HE HS300 HS310 HI7 HW HS301 HS311
  iintro ⟨HS300, HS310, HI7, HW, HS301, HS311⟩
  try dsimp only
  iapply (run_bind c)
  iapply (part16_run m K c _ ((k0_pay30 (k0_pay1 (F := F)) selC (xchunk m c 7))) rfl) $$ HE HS311 HS300 HS301 HS310 HA30 HD30 HW
  iintro ⟨HL31, HL32, HK3, HW, HF30⟩
  try dsimp only
  iapply (run_bind c)
  iapply (part17_run m K c _ _ ) $$ HE HA31 HL31 HD31 HW HA32 HL32 HD32 HG HB
  iintro ⟨HW, HF31, HF32, HG, HB⟩
  try dsimp only
  iapply (run_bind c)
  iapply (part18_run m K c _ _ _ ) $$ HE HR00 HW HR01
  iintro ⟨HW, HV00, HX00, HV01, HX01⟩
  try dsimp only
  iapply (run_bind c)
  iapply (part19_run m K c  ) $$ HE HR02 HW HK0 HV00 HV01
  iintro ⟨HW, HV02, HX02, HK0, HV00, HV01⟩
  try dsimp only
  iapply (run_bind c)
  iapply (part20_run m K c (k0_pay6 (F := F)) selH (k0_pay31 (gC m c)) (k0_pay32 (bC m c)) (k0_pay33 (commV m c 0 0 0) (commV m c 0 1 0) (commV m c 0 2 0) (commV m c 0 3 0)) (k0_pay34 (commV m c 0 0 1) (commV m c 0 1 1) (commV m c 0 2 1)) rfl) $$ HE HV02 HI0 HI1 HO0
  iintro ⟨HV02, HI0, HI1, HO0⟩
  try dsimp only
  iapply (run_bind c)
  iapply (part21_run m K c _ _ ) $$ HE HO0 HR10 HW HR11
  iintro ⟨HO0, HW, HV10, HX10, HV11, HX11⟩
  try dsimp only
  iapply (run_bind c)
  iapply (part22_run m K c _ _ ) $$ HE HR12 HW HK1 HV10 HV11
  iintro ⟨HW, HV12, HX12, HK1, HV10, HV11⟩
  try dsimp only
  iapply (run_bind c)
  iapply (part23_run m K c (k0_pay6 (F := F)) selH (k0_pay31 (gC m c)) (k0_pay32 (bC m c)) (k0_pay36 (commV m c 1 0 0) (commV m c 1 1 0) (commV m c 1 2 0) (commV m c 1 3 0)) (k0_pay37 (commV m c 1 0 1)) ((commV m c 1 1 1)) ) $$ HE HV11 HV12 HI2 HI3 HO1
  iintro ⟨HV11, HV12, HI2, HI3, HO1⟩
  try dsimp only
  iapply (run_bind c)
  iapply (part24_run m K c _ _ ((k0_pay38 (k0_pay6 (F := F)) selH (k0_pay31 (gC m c)) (k0_pay32 (bC m c)) (k0_pay36 (commV m c 1 0 0) (commV m c 1 1 0) (commV m c 1 2 0) (commV m c 1 3 0)) (k0_pay37 (commV m c 1 0 1)) ((commV m c 1 1 1)) (commV m c 1 2 1) (commV m c 1 3 1) (xhalf m c 1))) rfl) $$ HE HO1 HR20 HW
  iintro ⟨HO1, HW, HV20, HX20⟩
  try dsimp only
  iapply (run_bind c)
  iapply (part25_run m K c _ ) $$ HE HR21 HW HR22 HK2 HV20
  iintro ⟨HW, HV21, HX21, HV22, HX22, HK2, HV20⟩
  try dsimp only
  iapply (run_bind c)
  iapply (part26_run m K c (k0_pay6 (F := F)) selH ((k0_pay40 (commV m c 2 0 0) (commV m c 2 1 0) (commV m c 2 2 0) (commV m c 2 3 0))) ) $$ HE HK2 HV20 HV21 HV22 HI4 HI5
  iintro ⟨HK2, HV20, HV21, HV22, HI4, HI5⟩
  try dsimp only
  iapply (run_bind c)
  iapply (part27_run m K c _ _ (k0_pay31 (gC m c)) (k0_pay32 (bC m c)) (k0_pay42 (k0_pay6 (F := F)) selH ((k0_pay40 (commV m c 2 0 0) (commV m c 2 1 0) (commV m c 2 2 0) (commV m c 2 3 0))) (commV m c 2 0 1) (commV m c 2 1 1) (commV m c 2 2 1) (commV m c 2 3 1)) (k0_pay43 (k0_pay6 (F := F)) selH ((k0_pay40 (commV m c 2 0 0) (commV m c 2 1 0) (commV m c 2 2 0) (commV m c 2 3 0))) (xhalf m c 2)) rfl) $$ HE HO2 HR30 HW
  iintro ⟨HO2, HW, HV30, HX30⟩
  try dsimp only
  iapply (run_bind c)
  iapply (part28_run m K c _ ) $$ HE HR31 HW HR32 HK3 HV30
  iintro ⟨HW, HV31, HX31, HV32, HX32, HK3, HV30⟩
  try dsimp only
  iapply (run_bind c)
  iapply (part29_run m K c (k0_pay6 (F := F)) selH (k0_pay45 (commV m c 3 0 0) (commV m c 3 1 0)) (k0_pay46 (commV m c 3 2 0)) ) $$ HE HV32 HK3 HV30 HV31
  iintro ⟨HV32, HK3, HV30, HV31⟩
  try dsimp only
  iapply (run_bind c)
  iapply (part30_run m K c (k0_pay31 (gC m c)) (k0_pay32 (bC m c)) (k0_pay47 (k0_pay6 (F := F)) selH (k0_pay45 (commV m c 3 0 0) (commV m c 3 1 0)) (k0_pay46 (commV m c 3 2 0)) (commV m c 3 3 0)) (k0_pay48 (k0_pay6 (F := F)) selH (k0_pay45 (commV m c 3 0 0) (commV m c 3 1 0)) (k0_pay46 (commV m c 3 2 0)) (commV m c 3 3 0) (commV m c 3 0 1) (commV m c 3 1 1) (commV m c 3 2 1) (commV m c 3 3 1)) rfl) $$ HE HI6 HI7 HO3 HO0 HW HO1
  iintro ⟨HI6, HI7, HO3, HO0, HW, HO1⟩
  try dsimp only
  iapply (run_bind c)
  iapply (part31_run m K c  ) $$ HE HO2 HW HO3 HF00 HP00 HF01 HP01
  iintro ⟨HO2, HW, HO3, HP00, HL00, HP01, HL01⟩
  try dsimp only
  iapply (run_bind c)
  iapply (part32_run m K c  ) $$ HE HF02 HP02 HW HF10 HP10
  iintro ⟨HP02, HW, HL02, HP10, HL10⟩
  try dsimp only
  iapply (run_bind c)
  iapply (part33_run m K c  ) $$ HE HF11 HP11 HW HF12 HP12 HF20 HP20
  iintro ⟨HP11, HW, HL11, HP12, HL12, HP20, HL20⟩
  try dsimp only
  iapply (run_bind c)
  iapply (part34_run m K c  ) $$ HE HF21 HP21 HW HF22 HP22 HF30 HP30
  iintro ⟨HP21, HW, HL21, HP22, HL22, HP30, HL30⟩
  try dsimp only
  try simp only [Prog.lift, Prog.bind_op, Prog.bind_ret, Prog.pure_eq_ret]
  iapply (op_send_wait m K c 3 1 rfl) $$ HE HF31 HP31 HW
  iintro ⟨HL31, HP31, HW⟩
  iapply (run_ret c)
  try dsimp only
  try simp only [Prog.lift, Prog.bind_op, Prog.bind_ret, Prog.pure_eq_ret]
  iapply (op_send_wait m K c 3 2 rfl) $$ HE HF32 HP32 HW
  iintro ⟨HL32, HP32, HW⟩
  iapply (run_ret c)
  iapply Hk
  unfold bodyOut
  isplitl [HB]
  · iexact HB
  isplitl [HG]
  · iexact HG
  isplitl [HI0 HI1 HI2 HI3 HI4 HI5 HI6 HI7]
  · isplitl [HI0]; · iexact HI0
    isplitl [HI1]; · iexact HI1
    isplitl [HI2]; · iexact HI2
    isplitl [HI3]; · iexact HI3
    isplitl [HI4]; · iexact HI4
    isplitl [HI5]; · iexact HI5
    isplitl [HI6]; · iexact HI6
    iexact HI7
  isplitl [HK0 HK1 HK2 HK3]
  · isplitl [HK0]; · iexact HK0
    isplitl [HK1]; · iexact HK1
    isplitl [HK2]; · iexact HK2
    iexact HK3
  isplitl [HL00 HL01 HL02 HL10 HL11 HL12 HL20 HL21 HL22 HL30 HL31 HL32]
  · isplitl [HL00]; · iexact HL00
    isplitl [HL01]; · iexact HL01
    isplitl [HL02]; · iexact HL02
    isplitl [HL10]; · iexact HL10
    isplitl [HL11]; · iexact HL11
    isplitl [HL12]; · iexact HL12
    isplitl [HL20]; · iexact HL20
    isplitl [HL21]; · iexact HL21
    isplitl [HL22]; · iexact HL22
    isplitl [HL30]; · iexact HL30
    isplitl [HL31]; · iexact HL31
    iexact HL32
  isplitl [HO0 HO1 HO2 HO3]
  · isplitl [HO0]; · iexact HO0
    isplitl [HO1]; · iexact HO1
    isplitl [HO2]; · iexact HO2
    iexact HO3
  isplitl [HP00 HP01 HP02 HP10 HP11 HP12 HP20 HP21 HP22 HP30 HP31 HP32]
  · isplitl [HP00]; · iexact HP00
    isplitl [HP01]; · iexact HP01
    isplitl [HP02]; · iexact HP02
    isplitl [HP10]; · iexact HP10
    isplitl [HP11]; · iexact HP11
    isplitl [HP12]; · iexact HP12
    isplitl [HP20]; · iexact HP20
    isplitl [HP21]; · iexact HP21
    isplitl [HP22]; · iexact HP22
    isplitl [HP30]; · iexact HP30
    isplitl [HP31]; · iexact HP31
    iexact HP32
  isplitl [HV00 HV01 HV02 HV10 HV11 HV12 HV20 HV21 HV22 HV30 HV31 HV32]
  · isplitl [HV00]; · iexact HV00
    isplitl [HV01]; · iexact HV01
    isplitl [HV02]; · iexact HV02
    isplitl [HV10]; · iexact HV10
    isplitl [HV11]; · iexact HV11
    isplitl [HV12]; · iexact HV12
    isplitl [HV20]; · iexact HV20
    isplitl [HV21]; · iexact HV21
    isplitl [HV22]; · iexact HV22
    isplitl [HV30]; · iexact HV30
    isplitl [HV31]; · iexact HV31
    iexact HV32
  isplitl [HW]
  · iexact HW
  isplitl [HX00 HX01 HX02 HX10 HX11 HX12 HX20 HX21 HX22 HX30 HX31 HX32]
  · isplitl [HX00]; · iexact HX00
    isplitl [HX01]; · iexact HX01
    isplitl [HX02]; · iexact HX02
    isplitl [HX10]; · iexact HX10
    isplitl [HX11]; · iexact HX11
    isplitl [HX12]; · iexact HX12
    isplitl [HX20]; · iexact HX20
    isplitl [HX21]; · iexact HX21
    isplitl [HX22]; · iexact HX22
    isplitl [HX30]; · iexact HX30
    isplitl [HX31]; · iexact HX31
    iexact HX32
  iexact HZ

end Cert.NormProof
-- ==== Proof.Ghost.lean ====
/-
The launch's side of the protocol: which semaphores become cells, the tokens minted for them and dealt to the devices that
pay, and the credit each device starts with.
-/
module

public import proofs.«01_k».proof.Proof.Body

@[expose] public section

noncomputable section

namespace Cert.NormProof

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Families over the index types -/

abbrev PJ : Type := Fin 4 × Fin 3

theorem sepOption {A : Type} [Fintype A] [DecidableEq A] (Φ : Option A → sProp 𝕄) :
    bigSep Finset.univ Φ = iprop(Φ none ∗ bigSep Finset.univ fun a => Φ (some a)) := by
  rw [bigSep_univ_equiv (Equiv.optionEquivSumPUnit A).symm Φ, BI.bigSep_univ_sum]
  have h : bigSep (Finset.univ : Finset PUnit.{1}) (fun b => Φ ((Equiv.optionEquivSumPUnit A).symm (Sum.inr b))) = Φ none := by
    rw [bigSep_univ_eq_bigSepL [PUnit.unit] (by decide) (by decide), bigSepL_singleton]; rfl
  rw [h]
  refine BI.Entails.antisymm ?_ ?_
  · show iprop(_ ∗ _) ⊢ (iprop(_ ∗ _) : sProp 𝕄)
    iintro ⟨HA, HB⟩
    isplitl [HB]; · iexact HB
    iexact HA
  · show iprop(_ ∗ _) ⊢ (iprop(_ ∗ _) : sProp 𝕄)
    iintro ⟨HA, HB⟩
    isplitl [HB]; · iexact HB
    iexact HA

theorem sepBool {A : Type} [Fintype A] [DecidableEq A] (Φ : Bool × A → sProp 𝕄) :
    bigSep Finset.univ Φ = iprop((bigSep Finset.univ fun a => Φ (false, a)) ∗ bigSep Finset.univ fun a => Φ (true, a)) := by
  rw [bigSep_univ_prod, bigSep_univ_eq_bigSepL [false, true] (by decide) (by decide), bigSepL_cons_cons, bigSepL_singleton]; rfl

/-- A family over the cells is its barrier, its send and its receive part. -/
theorem sepCells (Φ : CIx → sProp 𝕄) : bigSep Finset.univ Φ = iprop(Φ none ∗ (bigSep Finset.univ fun x : PJ => Φ (some (false, x)))
    ∗ (bigSep Finset.univ fun x : PJ => Φ (some (true, x)))) := by
  rw [sepOption, sepBool]

/-! ## The semaphores -/

/-- The kernel's own semaphores: the fourteen local ones and the cells that are not the barrier. -/
abbrev OIx : Type := (Fin 8 ⊕ Fin 2 ⊕ Fin 4) ⊕ (Bool × PJ)
def osem : OIx → SemLoc sig
  | .inl (.inl q) => .dma (inS q)
  | .inl (.inr (.inl q)) => .dma (gbS q)
  | .inl (.inr (.inr p)) => .dma (outS p)
  | .inr x => csem (some x)

theorem csem_injective : Function.Injective csem := by decide
theorem kcell_injective : Function.Injective (kcell : Dev nD × CIx → GSem nD τ sig) := by
  rintro ⟨c, k⟩ ⟨c', k'⟩ h
  have h1 : c = c' := congrArg (fun g : GSem nD τ sig => g.1.1) h
  have h2 : k = k' := csem_injective (congrArg Prod.snd h)
  rw [h1, h2]

theorem ownSemFacts : Pipeline.OwnSemFacts cfg0.spec osem := by decide

/-- The fourteen local semaphores at zero. -/
def locals (c : Dev nD) : sProp 𝕄 :=
  iprop((bigSep Finset.univ fun q : Fin 8 => semVal ((c : Thread nD τ), .dma (inS q)) 0)
    ∗ (bigSep Finset.univ fun q : Fin 2 => semVal ((c : Thread nD τ), .dma (gbS q)) 0)
    ∗ (bigSep Finset.univ fun p : Fin 4 => semVal ((c : Thread nD τ), .dma (outS p)) 0))

theorem ownSems0_eq (c : Dev nD) : (Pipeline.ownSems0 (Ix := Unit) (Name := ℕ) (U := UU) (Lvl := ℕ) (Val := Elt F) (τ := τ) osem c : sProp 𝕄)
    = iprop(locals c ∗ (bigSep Finset.univ fun x : Bool × PJ => semVal (kcell (c, some x)) 0)) := by
  unfold Pipeline.ownSems0 locals
  rw [BI.bigSep_univ_sum, BI.bigSep_univ_sum, BI.bigSep_univ_sum]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## The tokens -/

def ringCells : Finset (GSem nD τ sig) := Finset.univ.map ⟨kcell, kcell_injective⟩

/-- A device's own cells' duties: three on the barrier, one on every other cell. -/
abbrev TIx : Type := Fin 3 ⊕ (Bool × PJ)
def tokLoc : TIx → SemLoc sig × Fin 3
  | .inl d => (.reg barS, d)
  | .inr x => (csem (some x), 0)
theorem tokLoc_injective : Function.Injective tokLoc := by decide
def tokOf (ct : Dev nD × TIx) : GSem nD τ sig × ℕ × Fin 3 := (((ct.1 : Thread nD τ), (tokLoc ct.2).1), 0, (tokLoc ct.2).2)
theorem tokOf_injective : Function.Injective tokOf := by
  rintro ⟨c, k⟩ ⟨c', k'⟩ h
  have h1 : c = c' := congrArg (fun x : GSem nD τ sig × ℕ × Fin 3 => x.1.1.1) h
  have h2 : k = k' := tokLoc_injective (Prod.ext (congrArg (fun x : GSem nD τ sig × ℕ × Fin 3 => x.1.2) h)
    (congrArg (fun x : GSem nD τ sig × ℕ × Fin 3 => x.2.2) h))
  rw [h1, h2]
def ringToks : Finset (GSem nD τ sig × ℕ × Fin 3) := Finset.univ.map ⟨tokOf, tokOf_injective⟩

def u₀ : UU := (initOf (Pipeline.cells cfgs cellOf_inj) (Pipeline.launchToks cfgs cellOf_inj), (initOf ringCells ringToks, 1))

/-- The tokens of device `c`'s own cells. -/
def toks (c : Dev nD) : sProp 𝕄 :=
  iprop((bigSep Finset.univ fun d : Fin 3 => dutyTok ER (barCell c) 0 d)
    ∗ (bigSep Finset.univ fun x : PJ => dutyTok ER (sendCell c x.1 x.2) 0 0)
    ∗ (bigSep Finset.univ fun x : PJ => dutyTok ER (recvCell c x.1 x.2) 0 0))

/-- What the launch deals device `c`. -/
def G (c : Dev nD) : sProp 𝕄 :=
  iprop((bigSep Finset.univ fun k : CIx => roundState ER (Rd m) (kcell (c, k)) 0)
    ∗ (bigSep Finset.univ fun k : CIx => iprop(atPos ER (kcell (c, k)) 0 ∅ 0 ∗ reached ER (kcell (c, k)) 0)) ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CIx => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [BI.bigSep_univ_sum, sepBool]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The cells under their invariants -/

theorem sems_cells (c : Dev nD) :
    iprop((bigSep Finset.univ fun x : Bool × PJ => semVal (kcell (c, some x)) 0) ∗ semVal (barCell c) 0)
      ⊢ (bigSep Finset.univ fun k : CIx => semVal (kcell (c, k)) 0 : sProp 𝕄) := by
  rw [sepOption]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ locals c) := by
  rw [ownSems0_eq, unscopedSems0_eq]
  unfold G
  iintro ⟨⟨Hloc, Hos⟩, Hus, Hst, Hat, Htok⟩
  ihave Hv := (sems_cells (F := F) c) $$ [Hos Hus]
  · isplitl [Hos] <;> iassumption
  imod (show iprop((bigSep Finset.univ fun k : CIx => semVal (kcell (c, k)) 0) ∗ bigSep Finset.univ fun k : CIx => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hloc

/-! ## Dealing the tokens to their payers -/

/-- The barrier duties: payer and place there, to owner and place there. -/
def barDeal : Dev nD × Fin 3 ≃ Dev nD × Fin 3 where
  toFun x := (peer x.1 x.2, x.2.rev)
  invFun x := (peer x.1 x.2, x.2.rev)
  left_inv x := by rcases x with ⟨c, j⟩; exact Prod.ext (peer_rev c j) (Fin.rev_rev j)
  right_inv x := by rcases x with ⟨c, j⟩; exact Prod.ext (peer_rev c j) (Fin.rev_rev j)
/-- The receive duties: payer to owner. -/
def recvDeal : Dev nD × PJ ≃ Dev nD × PJ where
  toFun x := (peer x.1 x.2.2, x.2)
  invFun x := (peer x.1 x.2.2.rev, x.2)
  left_inv x := by rcases x with ⟨c, p, j⟩; exact Prod.ext (peer_rev c j) rfl
  right_inv x := by rcases x with ⟨c, p, j⟩; exact Prod.ext (peer_rev' c j) rfl

/-- The tokens device `c` pays with. -/
def payToks (c : Dev nD) : sProp 𝕄 :=
  iprop((bigSep Finset.univ fun j : Fin 3 => dutyTok ER (barCell (peer c j)) 0 j.rev)
    ∗ (bigSep Finset.univ fun x : PJ => sendRes c x.1 x.2))

theorem toks_around : (bigSep Finset.univ fun c : Dev nD => (toks c : sProp 𝕄)) ⊢ bigSep Finset.univ fun c : Dev nD => payToks c := by
  have hB : (bigSep Finset.univ fun c : Dev nD => bigSep Finset.univ fun d : Fin 3 => (dutyTok ER (barCell c) 0 d : sProp 𝕄))
      = bigSep Finset.univ fun c : Dev nD => bigSep Finset.univ fun j : Fin 3 => dutyTok ER (barCell (peer c j)) 0 j.rev := by
    rw [← bigSep_univ_prod (fun x : Dev nD × Fin 3 => (dutyTok ER (barCell x.1) 0 x.2 : sProp 𝕄)), bigSep_univ_equiv barDeal, bigSep_univ_prod]; rfl
  have hV : (bigSep Finset.univ fun c : Dev nD => bigSep Finset.univ fun x : PJ => (dutyTok ER (recvCell c x.1 x.2) 0 0 : sProp 𝕄))
      = bigSep Finset.univ fun c : Dev nD => bigSep Finset.univ fun x : PJ => dutyTok ER (recvCell (peer c x.2) x.1 x.2) 0 0 := by
    rw [← bigSep_univ_prod (fun y : Dev nD × PJ => (dutyTok ER (recvCell y.1 y.2.1 y.2.2) 0 0 : sProp 𝕄)), bigSep_univ_equiv recvDeal, bigSep_univ_prod]; rfl
  unfold toks payToks sendRes
  simp only [bigSep_sep']
  rw [hB, hV]

/-! ## What each device holds once the cells are made -/

theorem withAll {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The cells' invariants and that each is at its round. -/
def known (K : Dev nD × CIx → ℕ) : sProp 𝕄 :=
  iprop((bigSep Finset.univ fun ck : Dev nD × CIx => cellInv ER (Rd m) (K ck) (kcell ck))
    ∗ (bigSep Finset.univ fun ck : Dev nD × CIx => reached ER (kcell ck) 0))

instance known_persistent (K : Dev nD × CIx → ℕ) : BI.Persistent (known m K) := by unfold known; infer_instance

/-- What stays with device `c`: its positions, the tokens it pays with, its local semaphores. -/
def linear (c : Dev nD) : sProp 𝕄 :=
  iprop((bigSep Finset.univ fun k : CIx => atPos ER (kcell (c, k)) 0 ∅ 0) ∗ payToks c ∗ locals c)

def G' (c : Dev nD) : sProp 𝕄 := iprop(∃ K, known m K ∗ linear c)

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ locals c) : sProp 𝕄)
      ⊢ bigSep Finset.univ (G' m) := by
  rw [bigSep_sep', bigSep_sep', bigSep_sep', ← bigSep_univ_prod (fun ck : Dev nD × CIx => iprop(∃ κ : ℕ, cellInv ER (Rd m) κ (kcell ck))),
    bigSep_congr (s := Finset.univ) (fun (c : Dev nD) _ => bigSep_sep' Finset.univ (fun k : CIx => (atPos ER (kcell (c, k)) 0 ∅ 0 : sProp 𝕄)) (fun k => reached ER (kcell (c, k)) 0)),
    bigSep_sep', ← bigSep_univ_prod (fun ck : Dev nD × CIx => (reached ER (kcell ck) 0 : sProp 𝕄))]
  iintro ⟨HI, ⟨Hat, #HR⟩, Htok, Hloc⟩
  ihave HK := (BI.bigSep_exists_pi Finset.univ (fun (ck : Dev nD × CIx) (κ : ℕ) => (cellInv ER (Rd m) κ (kcell ck) : sProp 𝕄))) $$ HI
  icases HK with ⟨%K, #HI⟩
  ihave Htk := (toks_around (F := F)) $$ Htok
  iapply (withAll (R := known m K) (Φ := linear) (Ψ := G' m) fun c _ => by
    unfold G'; iintro ⟨HK, HL⟩; iexists K; isplitl [HK] <;> iassumption)
  isplitr
  · unfold known; isplitl; · iexact HI
    iexact HR
  · unfold linear; simp only [bigSep_sep']
    isplitl [Hat]; · iexact Hat
    isplitl [Htk] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit -/

theorem debt_sum (l : List (GSem nD τ sig × ℕ)) (g : GSem nD τ sig) :
    debt l g () = (l.map fun x => if x.1 = g then x.2 else 0).sum := by
  induction l with
  | nil => rfl
  | cons x xs ih =>
    unfold debt
    rw [Pi.add_apply, Finsupp.add_apply, tallyAt_apply, ih, List.map_cons, List.sum_cons, Nat.add_comm]
    congr 1
    by_cases h : x.1 = g
    · rw [if_pos h, if_pos ⟨h.symm, rfl⟩]
    · rw [if_neg h, if_neg fun h' => h h'.1.symm]

theorem bar_eq_iff {a b : Dev nD} : (barCell a = barCell b) ↔ (a = b) :=
  ⟨fun h => congrArg (fun g : GSem nD τ sig => g.1.1) h, fun h => h ▸ rfl⟩
theorem recv_ne_bar (a b : Dev nD) (p : Fin 4) (j : Fin 3) : recvCell a p j ≠ barCell b :=
  fun h => by cases congrArg Prod.snd h
theorem recv_eq_iff {a b : Dev nD} {p p' : Fin 4} {j j' : Fin 3} : (recvCell a p j = recvCell b p' j') ↔ (a = b ∧ p = p' ∧ j = j') := by
  constructor
  · intro h
    have h1 : a = b := congrArg (fun g : GSem nD τ sig => g.1.1) h
    have h2 := csem_injective (a₁ := some (true, p, j)) (a₂ := some (true, p', j')) (congrArg Prod.snd h)
    have h3 := Prod.mk.inj (Prod.mk.inj (Option.some.inj h2)).2
    exact ⟨h1, h3.1, h3.2⟩
  · rintro ⟨rfl, rfl, rfl⟩; rfl

theorem owed_bar (d c : Dev nD) : O₀ d (barCell c) ()
    = (if peer d 0 = c then 1 else 0) + ((if peer d 1 = c then 1 else 0) + (if peer d 2 = c then 1 else 0)) := by
  unfold O₀
  rw [debt_sum]
  simp only [bill, List.map_cons, List.map_nil, List.sum_cons, List.sum_nil, bar_eq_iff, if_neg (recv_ne_bar _ c _ _), Nat.add_zero]

theorem owed_recv (d c : Dev nD) (p : Fin 4) (j : Fin 3) : O₀ d (recvCell c p j) () = if peer d j = c then NN else 0 := by
  have hb (a : Dev nD) : barCell a ≠ recvCell c p j := fun h => recv_ne_bar c a p j h.symm
  unfold O₀
  rw [debt_sum]
  simp only [bill, List.map_cons, List.map_nil, List.sum_cons, List.sum_nil, if_neg (hb _), recv_eq_iff]
  fin_cases p <;> fin_cases j <;> simp

theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem launch_recv (c : Dev nD) (p : Fin 4) (j : Fin 3) :
    tallyOn (recvCell c p j) (launchCredit (Pipeline.owing O₀) 0 (recvCell c p j)) = (tallyAt (recvCell c p j) () NN : CellTallies nD τ sig Unit) := by
  unfold tallyAt; refine congrArg _ (Finsupp.ext fun u => ?_); cases u
  have e (d : Dev nD) : (peer d j = c) = (d = peer c j.rev) :=
    propext ⟨fun h => by rw [← h, peer_rev], fun h => by rw [h, peer_rev']⟩
  rw [Pipeline.launchCredit_owing, Finsupp.single_eq_same, Finset.sum_congr rfl fun d _ => owed_recv d c p j]
  simp only [e]
  rw [Finset.sum_ite_eq' Finset.univ (peer c j.rev) fun _ => NN, if_pos (Finset.mem_univ _)]

theorem cells_of_sems (Φ : SemLoc sig → sProp 𝕄) : bigSep Finset.univ Φ ⊢ bigSep Finset.univ fun k : CIx => Φ (csem k) := by
  refine (BI.bigSep_subset (Finset.subset_univ (Finset.univ.map ⟨csem, csem_injective⟩))).trans ?_
  rw [BI.bigSep_map]; exact BI.Entails.refl _

theorem creds (c : Dev nD) : (Pipeline.launchCred O₀ c : sProp 𝕄)
    ⊢ iprop(cred (tallyAt (barCell c) () 3) ∗ bigSep Finset.univ fun x : PJ => cred (tallyAt (recvCell c x.1 x.2) () NN)) := by
  unfold Pipeline.launchCred
  refine (cells_of_sems _).trans ?_
  rw [sepCells]
  have e1 : (cred (tallyOn ((c : Thread nD τ), csem none) (launchCredit (Pipeline.owing O₀) 0 ((c : Thread nD τ), csem none))) : sProp 𝕄)
      = cred (tallyAt (barCell c) () 3) := congrArg cred (launch_bar c)
  have e2 (x : PJ) : (cred (tallyOn ((c : Thread nD τ), csem (some (true, x))) (launchCredit (Pipeline.owing O₀) 0 ((c : Thread nD τ), csem (some (true, x))))) : sProp 𝕄)
      = cred (tallyAt (recvCell c x.1 x.2) () NN) := congrArg cred (launch_recv c x.1 x.2)
  rw [e1, bigSep_congr (s := Finset.univ) (fun (x : PJ) _ => e2 x)]
  iintro ⟨HB, -, HV⟩
  isplitl [HB] <;> iassumption

end Cert.NormProof

end
-- ==== Proof.Launch.lean ====
/-
The launch: each device's buffers cut into the parts the body works on and joined again, the cells closed at the end, and
the run of the program from any memory with zero counters.
-/
module

public import proofs.«01_k».proof.Proof.Ghost
public import Idealize.ShloMosaic.Lib.Pipeline.CollectiveSegs

@[expose] public section

noncomputable section

namespace Cert.NormProof

open Cert.KernelIdeal Cert.KernelIdeal.Gen

open Idealize.ShloMosaic
open Idealize.ShloMosaic.Pipeline (Dat BodyObligation)
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (c : Dev nD)

/-! ## Families written out -/

theorem sepMono {A : Type} [Fintype A] [DecidableEq A] {Φ Ψ : A → sProp 𝕄} (h : ∀ a, Φ a ⊢ Ψ a) : bigSep Finset.univ Φ ⊢ bigSep Finset.univ Ψ :=
  bigSep_mono fun a _ => h a
theorem sep2 (Φ : Fin 2 → sProp 𝕄) : bigSep Finset.univ Φ = iprop(Φ 0 ∗ Φ 1) := bigSep_univ_eq_bigSepL [0, 1] (by decide) (by decide) Φ
theorem run_fupd {α : Type} {p : Prog (TpuEff nD τ sig (Elt F) Λ₀ .tc) α} {Q : α → sProp 𝕄} :
    run c p (fun a => iprop(|={Set.univ}=> Q a)) ⊢ run c p Q := wp_fupd _ _ _ p Q

theorem sep3 (Φ : Fin 3 → sProp 𝕄) : bigSep Finset.univ Φ = iprop(Φ 0 ∗ Φ 1 ∗ Φ 2) := bigSep_univ_eq_bigSepL [0, 1, 2] (by decide) (by decide) Φ
theorem sep4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem sep8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem sepPJ (Φ : PJ → sProp 𝕄) : bigSep Finset.univ Φ = iprop(Φ (0, 0) ∗ Φ (0, 1) ∗ Φ (0, 2) ∗ Φ (1, 0) ∗ Φ (1, 1) ∗ Φ (1, 2)
    ∗ Φ (2, 0) ∗ Φ (2, 1) ∗ Φ (2, 2) ∗ Φ (3, 0) ∗ Φ (3, 1) ∗ Φ (3, 2)) :=
  bigSep_univ_eq_bigSepL [(0, 0), (0, 1), (0, 2), (1, 0), (1, 1), (1, 2), (2, 0), (2, 1), (2, 2), (3, 0), (3, 1), (3, 2)] (by decide) (by decide) Φ
abbrev Sub : Type := Fin 4 × Fin 2 × Fin 2
theorem sepSub (Φ : Sub → sProp 𝕄) : bigSep Finset.univ Φ = iprop(Φ (0, 0, 0) ∗ Φ (0, 0, 1) ∗ Φ (0, 1, 0) ∗ Φ (0, 1, 1)
    ∗ Φ (1, 0, 0) ∗ Φ (1, 0, 1) ∗ Φ (1, 1, 0) ∗ Φ (1, 1, 1) ∗ Φ (2, 0, 0) ∗ Φ (2, 0, 1) ∗ Φ (2, 1, 0) ∗ Φ (2, 1, 1)
    ∗ Φ (3, 0, 0) ∗ Φ (3, 0, 1) ∗ Φ (3, 1, 0) ∗ Φ (3, 1, 1)) :=
  bigSep_univ_eq_bigSepL [(0, 0, 0), (0, 0, 1), (0, 1, 0), (0, 1, 1), (1, 0, 0), (1, 0, 1), (1, 1, 0), (1, 1, 1),
    (2, 0, 0), (2, 0, 1), (2, 1, 0), (2, 1, 1), (3, 0, 0), (3, 0, 1), (3, 1, 0), (3, 1, 1)] (by decide) (by decide) Φ

theorem bodyIn_eq : (bodyIn m c : sProp 𝕄) = iprop((bigSep Finset.univ fun x : PJ => sendRes c x.1 x.2)
    ∗ bRes m c ∗ cred (tallyAt (barCell c) () 3) ∗ gRes m c
    ∗ (bigSep Finset.univ fun q : Fin 8 => inRes m c q) ∗ (bigSep Finset.univ fun p : Fin 4 => ovRes c p)
    ∗ (bigSep Finset.univ fun x : PJ => posS c x.1 x.2 0) ∗ (bigSep Finset.univ fun x : PJ => recvRes c x.1 x.2)
    ∗ (bigSep Finset.univ fun x : Sub => sub c x.1 x.2.1 x.2.2)
    ∗ (bigSep Finset.univ fun j : Fin 3 => dutyTok ER (barCell (peer c j)) 0 j.rev)
    ∗ Ow c (bill c)
    ∗ (bigSep Finset.univ fun j : Fin 3 => bigSep Finset.univ fun p : Fin 4 => land c p j.rev) ∗ posB c 0) := by
  unfold bodyIn
  simp only [sep3, sep4, sep8, sepPJ, sepSub]
  rfl

theorem bodyOut_eq : (bodyOut m c : sProp 𝕄) = iprop(bDone m c ∗ gDone m c ∗ (bigSep Finset.univ fun q : Fin 8 => inDone m c q)
    ∗ (bigSep Finset.univ fun p : Fin 4 => keptP m c p) ∗ (bigSep Finset.univ fun x : PJ => lent m c x.1 x.2)
    ∗ (bigSep Finset.univ fun p : Fin 4 => outDone m c p)
    ∗ (bigSep Finset.univ fun x : PJ => posS c x.1 x.2 1) ∗ (bigSep Finset.univ fun x : PJ => landed m c x.1 x.2)
    ∗ Ow c [] ∗ (bigSep Finset.univ fun x : PJ => posV c x.1 x.2 1) ∗ posB c 1) := by
  unfold bodyOut
  simp only [sep4, sep8, sepPJ]

/-! ## The buffers in parts -/

theorem x_parts (f : Buf (Elt F) (xL c)) : (xL c ↦{fullShare} f : sProp 𝕄) = bigSep Finset.univ fun q : Fin 8 => xL c ↦[xR q]{fullShare} f := by
  rw [← pointsTo_biUnion (ℓ := xL c) Finset.univ xR (fun a _ b _ h => xR_disj a b h), ← xR_cover]
theorem xv_parts (f : Buf (Elt F) (xvL c)) : (xvL c ↦{fullShare} f : sProp 𝕄) = bigSep Finset.univ fun q : Fin 8 => xvL c ↦[xR q]{fullShare} f := by
  rw [← pointsTo_biUnion (ℓ := xvL c) Finset.univ xR (fun a _ b _ h => xR_disj a b h), ← xR_cover]
theorem o_parts (f : Buf (Elt F) (oL c)) : (oL c ↦{fullShare} f : sProp 𝕄) = bigSep Finset.univ fun q : Fin 4 => oL c ↦[oR q]{fullShare} f := by
  rw [← pointsTo_biUnion (ℓ := oL c) Finset.univ oR (fun a _ b _ h => oR_disj a b h), ← oR_cover]
theorem ov_parts (f : Buf (Elt F) (ovL c)) : (ovL c ↦{fullShare} f : sProp 𝕄) = bigSep Finset.univ fun q : Fin 4 => ovL c ↦[oR q]{fullShare} f := by
  rw [← pointsTo_biUnion (ℓ := ovL c) Finset.univ oR (fun a _ b _ h => oR_disj a b h), ← oR_cover]

theorem sepSucc (Φ : Fin 4 → sProp 𝕄) : bigSep Finset.univ Φ = iprop(Φ 0 ∗ bigSep Finset.univ fun j : Fin 3 => Φ j.succ) := by
  rw [sep4, sep3]; rfl

theorem cm_parts (f : Buf (Elt F) (cmL c)) : (cmL c ↦{fullShare} f : sProp 𝕄)
    = iprop((bigSep Finset.univ fun p : Fin 4 => cmL c ↦[cR p 0]{fullShare} f)
      ∗ bigSep Finset.univ fun x : PJ => cmL c ↦[cR x.1 x.2.succ]{fullShare} f) := by
  have h : (cmL c ↦{fullShare} f : sProp 𝕄) = bigSep Finset.univ fun a : Fin 4 × Fin 4 => cmL c ↦[cR a.1 a.2]{fullShare} f := by
    rw [← pointsTo_biUnion (ℓ := cmL c) Finset.univ (fun a : Fin 4 × Fin 4 => cR a.1 a.2) (fun a _ b _ h => cR_disj a b h), ← cR_cover]
  rw [h, bigSep_univ_prod, bigSep_univ_prod (fun x : PJ => (cmL c ↦[cR x.1 x.2.succ]{fullShare} f : sProp 𝕄)), ← bigSep_sep']
  exact bigSep_congr fun p _ => sepSucc fun k => (cmL c ↦[cR p k]{fullShare} f : sProp 𝕄)

theorem slot_parts (f : Buf (Elt F) (cmL c)) : (bigSep Finset.univ fun p : Fin 4 => (cmL c ↦[cR p 0]{fullShare} f : sProp 𝕄))
    = bigSep Finset.univ fun x : Sub => cmL c ↦[sR x.1 x.2.1 x.2.2]{fullShare} f := by
  rw [bigSep_univ_prod]
  exact bigSep_congr fun p _ => by
    rw [sR_cover p, pointsTo_biUnion (ℓ := cmL c) Finset.univ (fun a : Fin 2 × Fin 2 => sR p a.1 a.2) (fun a _ b _ h => sR_disj p a b h)]

/-- A landing slot's index: the peer that gets it and the phase, to the phase and the source. -/
def landIx : Fin 3 × Fin 4 ≃ PJ where
  toFun x := (x.2, x.1.rev)
  invFun x := (x.2.rev, x.1)
  left_inv x := by rcases x with ⟨j, p⟩; exact Prod.ext (Fin.rev_rev j) rfl
  right_inv x := by rcases x with ⟨p, j⟩; exact Prod.ext rfl (Fin.rev_rev j)

theorem lands_eq (Φ : PJ → sProp 𝕄) : bigSep Finset.univ Φ = bigSep Finset.univ fun j : Fin 3 => bigSep Finset.univ fun p : Fin 4 => Φ (p, j.rev) := by
  rw [bigSep_univ_equiv landIx, bigSep_univ_prod]; rfl

theorem cm_open : (iprop(∃ f : Buf (Elt F) (cmL c), cmL c ↦{fullShare} f) : sProp 𝕄)
    ⊢ iprop((bigSep Finset.univ fun x : Sub => sub c x.1 x.2.1 x.2.2)
      ∗ (bigSep Finset.univ fun j : Fin 3 => bigSep Finset.univ fun p : Fin 4 => land c p j.rev)) := by
  iintro ⟨%f, H⟩
  ihave H' := (Entails.of_eq (cm_parts c f)) $$ H
  icases H' with ⟨H0, H1⟩
  ihave H0' := (Entails.of_eq (slot_parts c f)) $$ H0
  isplitl [H0']
  · iapply (sepMono (fun (x : Sub) => show (cmL c ↦[sR x.1 x.2.1 x.2.2]{fullShare} f : sProp 𝕄) ⊢ sub c x.1 x.2.1 x.2.2 from by
      unfold sub; iintro H; iexists f; iexact H))
    iexact H0'
  · iapply (Entails.of_eq (lands_eq fun x => land c x.1 x.2))
    iapply (sepMono (fun (x : PJ) => show (cmL c ↦[cR x.1 x.2.succ]{fullShare} f : sProp 𝕄) ⊢ land c x.1 x.2 from by
      unfold land; iintro H; iexists f; iexact H))
    iexact H1

theorem cm_close : (iprop((bigSep Finset.univ fun p : Fin 4 => keptP m c p) ∗ (bigSep Finset.univ fun x : PJ => lent m c x.1 x.2)
      ∗ (bigSep Finset.univ fun x : PJ => landed m c x.1 x.2)) : sProp 𝕄)
    ⊢ iprop(cmL c ↦{fullShare} commC m c) := by
  rw [cm_parts, bigSep_univ_prod (fun x : PJ => (lent m c x.1 x.2 : sProp 𝕄))]
  iintro ⟨HK, HL, HV⟩
  isplitl [HK HL]
  · iapply ((Entails.of_eq (bigSep_sep' Finset.univ (fun p : Fin 4 => (keptP m c p : sProp 𝕄)) (fun p => bigSep Finset.univ fun j : Fin 3 => lent m c p j)).symm).trans
      (bigSep_mono fun p _ => show iprop(keptP m c p ∗ bigSep Finset.univ fun j : Fin 3 => lent m c p j) ⊢ (cmL c ↦[cR p 0]{fullShare} commC m c : sProp 𝕄) from by
        rw [sep3]
        iintro ⟨HK, H0, H1, H2⟩
        iapply (lend_back m c p)
        isplitl [H0]; · iexact H0
        isplitl [H1]; · iexact H1
        isplitl [H2] <;> iassumption))
    isplitl [HK] <;> iassumption
  · iapply (sepMono (fun (x : PJ) => show (landed m c x.1 x.2 : sProp 𝕄) ⊢ iprop(cmL c ↦[cR x.1 x.2.succ]{fullShare} commC m c) from by
      unfold landed; exact BI.Entails.refl _))
    iexact HV

/-! ## What the body starts with -/

/-- The device's four arrays, the result at `o`. -/
def arrays (o : Buf (Elt F) (oL c)) : sProp 𝕄 :=
  iprop((xL c ↦{fullShare} m (xL c)) ∗ (gL c ↦{fullShare} m (gL c)) ∗ (bL c ↦{fullShare} m (bL c)) ∗ (oL c ↦{fullShare} o))
/-- The five scratch buffers, at whatever contents. -/
def scratch : sProp 𝕄 :=
  iprop((∃ f : Buf (Elt F) (xvL c), xvL c ↦{fullShare} f) ∗ (∃ f : Buf (Elt F) (gvL c), gvL c ↦{fullShare} f)
    ∗ (∃ f : Buf (Elt F) (bvL c), bvL c ↦{fullShare} f) ∗ (∃ f : Buf (Elt F) (ovL c), ovL c ↦{fullShare} f)
    ∗ (∃ f : Buf (Elt F) (cmL c), cmL c ↦{fullShare} f))

theorem in_open : (iprop((xL c ↦{fullShare} m (xL c)) ∗ (∃ f : Buf (Elt F) (xvL c), xvL c ↦{fullShare} f)
      ∗ (bigSep Finset.univ fun q : Fin 8 => semVal ((c : Thread nD τ), .dma (inS q)) 0)) : sProp 𝕄)
    ⊢ bigSep Finset.univ fun q : Fin 8 => inRes m c q := by
  unfold inRes
  simp only [bigSep_sep']
  iintro ⟨HX, ⟨%f, HV⟩, HS⟩
  isplitl [HX]; · iapply (Entails.of_eq (x_parts c (m (xL c)))); iexact HX
  isplitl [HV]
  · ihave HV' := (Entails.of_eq (xv_parts c f)) $$ HV
    iapply (sepMono (fun (q : Fin 8) => show (xvL c ↦[xR q]{fullShare} f : sProp 𝕄)
      ⊢ iprop(∃ f : Buf (Elt F) (xvL c), xvL c ↦[xR q]{fullShare} f) from by iintro H; iexists f; iexact H))
    iexact HV'
  iexact HS

theorem in_close : (bigSep Finset.univ fun q : Fin 8 => (inDone m c q : sProp 𝕄))
    ⊢ iprop((xL c ↦{fullShare} m (xL c)) ∗ (∃ f : Buf (Elt F) (xvL c), xvL c ↦{fullShare} f)
      ∗ (bigSep Finset.univ fun q : Fin 8 => semVal ((c : Thread nD τ), .dma (inS q)) 0)) := by
  unfold inDone
  simp only [bigSep_sep']
  iintro ⟨HV, HX, HS⟩
  isplitl [HX]; · iapply (Entails.of_eq (x_parts c (m (xL c))).symm); iexact HX
  isplitl [HV]
  · iexists (xC m c); iapply (Entails.of_eq (xv_parts c (xC m c)).symm); iexact HV
  iexact HS

theorem out_open (o : Buf (Elt F) (oL c)) : (iprop((oL c ↦{fullShare} o) ∗ (∃ f : Buf (Elt F) (ovL c), ovL c ↦{fullShare} f)
      ∗ (bigSep Finset.univ fun p : Fin 4 => semVal ((c : Thread nD τ), .dma (outS p)) 0)) : sProp 𝕄)
    ⊢ bigSep Finset.univ fun p : Fin 4 => ovRes c p := by
  unfold ovRes
  simp only [bigSep_sep']
  iintro ⟨HX, ⟨%f, HV⟩, HS⟩
  isplitl [HV]
  · ihave HV' := (Entails.of_eq (ov_parts c f)) $$ HV
    iapply (sepMono (fun (q : Fin 4) => show (ovL c ↦[oR q]{fullShare} f : sProp 𝕄)
      ⊢ iprop(∃ f : Buf (Elt F) (ovL c), ovL c ↦[oR q]{fullShare} f) from by iintro H; iexists f; iexact H))
    iexact HV'
  isplitl [HX]
  · ihave HX' := (Entails.of_eq (o_parts c o)) $$ HX
    iapply (sepMono (fun (q : Fin 4) => show (oL c ↦[oR q]{fullShare} o : sProp 𝕄)
      ⊢ iprop(∃ f : Buf (Elt F) (oL c), oL c ↦[oR q]{fullShare} f) from by iintro H; iexists o; iexact H))
    iexact HX'
  iexact HS

theorem out_close : (bigSep Finset.univ fun p : Fin 4 => (outDone m c p : sProp 𝕄))
    ⊢ iprop((oL c ↦{fullShare} outC m c) ∗ (∃ f : Buf (Elt F) (ovL c), ovL c ↦{fullShare} f)
      ∗ (bigSep Finset.univ fun p : Fin 4 => semVal ((c : Thread nD τ), .dma (outS p)) 0)) := by
  unfold outDone
  simp only [bigSep_sep']
  iintro ⟨HX, HV, HS⟩
  isplitl [HX]; · iapply (Entails.of_eq (o_parts c (outC m c)).symm); iexact HX
  isplitl [HV]
  · iexists (outC m c); iapply (Entails.of_eq (ov_parts c (outC m c)).symm); iexact HV
  iexact HS

theorem body_in (o : Buf (Elt F) (oL c)) : iprop(arrays m c o ∗ scratch c ∗ linear c
      ∗ (cred (tallyAt (barCell c) () 3) ∗ bigSep Finset.univ fun x : PJ => cred (tallyAt (recvCell c x.1 x.2) () NN)) ∗ Ow c (bill c))
    ⊢ (bodyIn m c : sProp 𝕄) := by
  rw [bodyIn_eq]
  unfold arrays scratch linear payToks locals recvRes gRes bRes posB posS posV
  simp only [bigSep_sep', sepCells, sep2]
  iintro ⟨⟨HX, HG, HB, HO⟩, ⟨HXV, HGV, HBV, HOV, HCM⟩, ⟨⟨HPB, HPS, HPV⟩, ⟨HTB, HTS⟩, HSI, ⟨HSG, HSB⟩, HSO⟩, ⟨HC, HCV⟩, HW⟩
  ihave HC' := (cm_open c) $$ HCM
  icases HC' with ⟨HSub, HLand⟩
  isplitl [HTS]; · iexact HTS
  isplitl [HB HBV HSB]
  · isplitl [HB]; · iexact HB
    isplitl [HBV]; · iexact HBV
    iexact HSB
  isplitl [HC]; · iexact HC
  isplitl [HG HGV HSG]
  · isplitl [HG]; · iexact HG
    isplitl [HGV]; · iexact HGV
    iexact HSG
  isplitl [HX HXV HSI]
  · iapply (in_open m c)
    isplitl [HX]; · iexact HX
    isplitl [HXV]; · iexact HXV
    iexact HSI
  isplitl [HO HOV HSO]
  · iapply (out_open c o)
    isplitl [HO]; · iexact HO
    isplitl [HOV]; · iexact HOV
    iexact HSO
  isplitl [HPS]; · iexact HPS
  isplitl [HCV HPV]
  · isplitl [HCV]; · iexact HCV
    iexact HPV
  isplitl [HSub]; · iexact HSub
  isplitl [HTB]; · iexact HTB
  isplitl [HW]; · iexact HW
  isplitl [HLand]; · iexact HLand
  iexact HPB

/-! ## What it ends with -/

theorem cells_close (K : Dev nD × CIx → ℕ) : iprop(Env m K ∗ bigSep Finset.univ fun k : CIx => atPos ER (kcell (c, k)) 1 ∅ 0)
    ⊢ (iprop(|={Set.univ}=> bigSep Finset.univ fun k : CIx => semVal (kcell (c, k)) 0) : sProp 𝕄) :=
  (withAll (R := Env m K) (Ψ := fun k : CIx => iprop(|={Set.univ}=> semVal (kcell (c, k)) 0)) fun k _ => by
    iintro ⟨#HE, HP⟩
    ihave #HI := (env_inv m K (c, k)) $$ HE
    iapply (Rounds.cell_close ER (Rd m) (Set.mem_univ (K (c, k))) (fun h => h) (R := 1) (duties_later m (kcell (c, k))))
    isplitr; · iexact HI
    iexact HP).trans (bigSep_fupd _ _)

/-- What the device holds at the end, but for the tally. -/
def done : sProp 𝕄 :=
  iprop(arrays m c (outC m c) ∗ scratch c ∗ locals c ∗ bigSep Finset.univ fun k : CIx => semVal (kcell (c, k)) 0)

theorem body_out (K : Dev nD × CIx → ℕ) : iprop(Env m K ∗ bodyOut m c) ⊢ (iprop(|={Set.univ}=> (done m c ∗ Ow c [])) : sProp 𝕄) := by
  rw [bodyOut_eq]
  unfold gDone bDone posB posS posV
  iintro ⟨#HE, ⟨HBV, HB, HSB⟩, ⟨HGV, HG, HSG⟩, HIn, HK, HL, HOut, HPS, HV, HW, HPV, HPB⟩
  imod (cells_close m c K) $$ [HPS HPV HPB] with HS
  · isplitr; · iexact HE
    rw [sepCells]
    isplitl [HPB]; · iexact HPB
    isplitl [HPS]; · iexact HPS
    iexact HPV
  imodintro
  ihave HIn' := (in_close m c) $$ HIn
  icases HIn' with ⟨HX, HXV, HSI⟩
  ihave HOut' := (out_close m c) $$ HOut
  icases HOut' with ⟨HO, HOV, HSO⟩
  isplitr [HW]
  · unfold done arrays scratch locals
    isplitl [HX HG HB HO]
    · isplitl [HX]; · iexact HX
      isplitl [HG]; · iexact HG
      isplitl [HB]; · iexact HB
      iexact HO
    isplitl [HXV HGV HBV HOV HK HL HV]
    · isplitl [HXV]; · iexact HXV
      isplitl [HGV]; · iexists _; iexact HGV
      isplitl [HBV]; · iexists _; iexact HBV
      isplitl [HOV]; · iexact HOV
      iexists (commC m c)
      iapply (cm_close m c)
      isplitl [HK]; · iexact HK
      isplitl [HL] <;> iassumption
    isplitl [HSI HSG HSB HSO]
    · isplitl [HSI]; · iexact HSI
      isplitl [HSG HSB]
      · rw [sep2]
        isplitl [HSG] <;> iassumption
      iexact HSO
    iexact HS
  iexact HW

/-! ## The body's obligation -/

/-- What a device brings to the region. -/
def start : sProp 𝕄 :=
  iprop(arrays m c (m (oL c)) ∗ G' m c
    ∗ (cred (tallyAt (barCell c) () 3) ∗ bigSep Finset.univ fun x : PJ => cred (tallyAt (recvCell c x.1 x.2) () NN)) ∗ levAts L lv)

def Φ₀ : sProp 𝕄 := iprop(start m c ∗ scratch c)

def dats (_ : Fin 1) (c : Dev nD) : Dat τ (Elt F) Unit ℕ UU ℕ cfg0 c where
  A w := m ((cfg0.win w).arr.view.loc (c : Thread nD τ))
  after w _ := w.elim0
  Φ t := match t with
    | ⟨0, _⟩ => Φ₀ m c
    | ⟨_ + 1, _⟩ => done m c
  q _ := fullShare
  owed t := match t with
    | ⟨0, _⟩ => O₀ c
    | ⟨_ + 1, _⟩ => 0

theorem body_sound : iprop(Φ₀ m c ∗ Ow c (bill c))
    ⊢ run c (cc0_body (F := F) xM (Memref.isWhole_whole _) gM (Memref.isWhole_whole _) bM (Memref.isWhole_whole _) oM (Memref.isWhole_whole _)
        xvM (Memref.isWhole_whole _) gvM (Memref.isWhole_whole _) bvM (Memref.isWhole_whole _) ovM (Memref.isWhole_whole _)
        cmM (Memref.isWhole_whole _) cc0_scratch5 cc0_scratch6 cc0_scratch7 cc0_scratch8 cc0_scratch9) (fun _ => iprop(done m c ∗ Ow c [])) := by
  unfold Φ₀ start G'
  iintro ⟨⟨⟨HA, ⟨%K, #HK, HL⟩, HC, #Hlev⟩, HS⟩, HW⟩
  ihave #HE : Env m K $$ []
  · unfold Env known
    icases HK with ⟨HI, HR⟩
    isplitr; · iexact HI
    isplitr; · iexact HR
    iexact Hlev
  iapply (run_fupd c)
  iapply (body_run m K c) $$ HE [HA HL HC HS HW]
  · iapply (body_in m c (m (oL c)))
    isplitl [HA]; · iexact HA
    isplitl [HS]; · iexact HS
    isplitl [HL]; · iexact HL
    isplitl [HC] <;> iassumption
  iintro HO
  iapply (body_out m c K)
  isplitr; · iexact HE
  iexact HO

theorem owes_in (O : CellTallies nD τ sig Unit) (B : Set (SemLoc sig × Unit)) (h : O = debt (bill c)) :
    (Pipeline.owesWithin c O B : sProp 𝕄) ⊢ Ow c (bill c) := by
  unfold Ow Pipeline.owesWithin
  rw [h]
  iintro ⟨%W, -, H⟩
  iexists W; iexact H
theorem owes_out (O : CellTallies nD τ sig Unit) (B : Set (SemLoc sig × Unit)) (h : O = 0) (hB : ∀ x, x ∈ B) :
    (Ow c [] : sProp 𝕄) ⊢ Pipeline.owesWithin c O B := by
  unfold Ow Pipeline.owesWithin
  rw [h]
  iintro ⟨%W, H⟩
  iexists W
  isplitr; · ipureintro; exact fun x _ => hB x
  iexact H

set_option maxRecDepth 8000 in
theorem body_obligation (c : Dev nD) : BodyObligation (dats (F := F) m 0 c) (defs₀ (F := F)) 𝒱₀ () Set.univ := fun t => by
  rw [fin_N0 t]
  have e0 (Φ : Fin cfg0.W → sProp 𝕄) : bigSep Finset.univ Φ = iprop(emp) := by
    rw [show (Finset.univ : Finset (Fin cfg0.W)) = ∅ from Finset.univ_eq_empty (α := Fin 0), BI.bigSep_empty]; rfl
  rw [e0, e0]
  show iprop(Φ₀ m c ∗ Pipeline.owesWithin c (O₀ c) _ ∗ emp) ⊢ run c (cc0_body (F := F) xM (Memref.isWhole_whole _) gM (Memref.isWhole_whole _)
    bM (Memref.isWhole_whole _) oM (Memref.isWhole_whole _) xvM (Memref.isWhole_whole _) gvM (Memref.isWhole_whole _) bvM (Memref.isWhole_whole _)
    ovM (Memref.isWhole_whole _) cmM (Memref.isWhole_whole _) cc0_scratch5 cc0_scratch6 cc0_scratch7 cc0_scratch8 cc0_scratch9)
    (fun _ => iprop(done m c ∗ Pipeline.owesWithin c 0 _ ∗ emp))
  refine BI.Entails.trans ?_ ((body_sound m c).trans (wp_mono _ _ _ fun _ => ?_))
  · show iprop(Φ₀ m c ∗ Pipeline.owesWithin c (O₀ c) _ ∗ emp) ⊢ (iprop(Φ₀ m c ∗ Ow c (bill c)) : sProp 𝕄)
    iintro ⟨HΦ, HW, -⟩
    isplitl [HΦ]; · iexact HΦ
    iapply (owes_in c _ _ rfl); iexact HW
  · show iprop(done m c ∗ Ow c []) ⊢ (iprop(done m c ∗ Pipeline.owesWithin c 0 _ ∗ emp) : sProp 𝕄)
    iintro ⟨HD, HW⟩
    isplitl [HD]; · iexact HD
    isplitl [HW]
    · iapply (owes_out c _ _ rfl fun x => Or.inl trivial); iexact HW
    iempintro

/-! ## The launch's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> (iprop(start m c ∗ emp) : sProp 𝕄) := by
  rw [Pipeline.unscopedRestP_none, unscopedRest0_eq]
  iintro ⟨HA, Hlev, Hcr, -, HG⟩
  ihave Hc := (creds (F := F) c) $$ Hcr
  imodintro
  unfold start arrays
  isplitl
  · isplitl [HA]; · iexact HA
    isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, HR⟩
  isplitl [Hs]; · iexact Hs
  iexact HR

/-- What a device leaves with. -/
def left (c : Dev nD) : sProp 𝕄 := iprop(arrays m c (outC m c) ∗ unscopedSems0 c)

theorem phi1_exit (c : Dev nD) :
    (dats m 0 c).Φ (Fin.last cfg0.N) ⊢ iprop(left m c ∗ Pipeline.ownSems0 osem c ∗ Pipeline.scopedRest cfg0.spec c) := by
  rw [show (dats m 0 c).Φ (Fin.last cfg0.N) = done m c from rfl, scopedRest0_eq, ownSems0_eq]
  unfold done left scratch
  rw [unscopedSems0_eq, sepOption]
  iintro ⟨HA, HR, HL, HB, HS⟩
  isplitl [HA HB]
  · isplitl [HA]; · iexact HA
    iexact HB
  isplitl [HL HS]
  · isplitl [HL]; · iexact HL
    iexact HS
  iexact HR

theorem waits (c : Dev nD) : (levAts L lv : sProp 𝕄) ⊢ Pipeline.cellsWaits cfgs (dats m) () 0 c :=
  Pipeline.cellsWaits_intro cfgs (dats m) () 0 c fun w s t => w.elim0

theorem share_eq (c : Dev nD) (w : Fin cfg0.W) : (dats m 0 c).share w = fullShare := w.elim0

/-! ## The run -/

/-- A whole buffer read against the memory. -/
theorem read_one (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨H, HSI⟩
  icombine HSI H gives %h
  isplitr; · ipureintro; exact Buf.eq_of_forall_mem_univ h
  iexact HSI

/-- The final memory at device `c`. -/
def ends (c : Dev nD) (s : MemSt nD τ sig (Elt F)) : Prop :=
  s.mem (xL c) = m (xL c) ∧ s.mem (gL c) = m (gL c) ∧ s.mem (bL c) = m (bL c) ∧ s.mem (oL c) = outC m c

theorem left_read (c : Dev nD) (s' : Phys nD τ sig (Elt F)) : iprop(left m c ∗ emp ∗ SI s')
    ⊢ |={Set.univ}=> (iprop(⌜ends m c s'.mem ∧ ∀ sm : SemLoc sig, sm.isScoped .tc = false → s'.mem.sem ((c.tc : Thread nD τ), sm) = 0⌝ ∗ SI s') : sProp 𝕄) := by
  unfold left arrays
  iintro ⟨⟨⟨HX, HG, HB, HO⟩, HS⟩, -, HSI⟩
  ihave H := (read_one (xL c) _ s') $$ [HX HSI]
  · isplitl [HX] <;> iassumption
  icases H with ⟨%hX, HSI⟩
  ihave H := (read_one (gL c) _ s') $$ [HG HSI]
  · isplitl [HG] <;> iassumption
  icases H with ⟨%hG, HSI⟩
  ihave H := (read_one (bL c) _ s') $$ [HB HSI]
  · isplitl [HB] <;> iassumption
  icases H with ⟨%hB, HSI⟩
  ihave H := (read_one (oL c) _ s') $$ [HO HSI]
  · isplitl [HO] <;> iassumption
  icases H with ⟨%hO, HSI⟩
  imod (Pipeline.unscopedSems0_read (X := unscopedSems0 c) (c := c) fupd_intro s') $$ [HS HSI] with ⟨%hS, HSI⟩
  · isplitl [HS] <;> iassumption
  imodintro
  isplitr; · ipureintro; exact ⟨⟨hX, hG, hB, hO⟩, hS⟩
  iexact HSI

set_option maxRecDepth 8000 in
/-- From any memory with zero counters every run of the program ends, each device's arguments as they were, its result at
    `outC`, every counter zero. -/
theorem run_main : θ_run defs (onTc (τ := τ) (main (F := F))) (s₀ m ρ)
    (fun r => (∀ c : Dev nD, ends m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave H := (own_pair_emb embR _ _) $$ HX
      icases H with ⟨HX, -⟩
      ihave HX := (show BI.own (((Emb.inl : Emb UB (UB × Counters)).trans embR) (initOf ringCells ringToks)) ⊢ (BI.own (ER (initOf ringCells ringToks)) : sProp 𝕄) from Entails.of_eq (by unfold ER; rfl)) $$ HX
      imod (fund_ring m) $$ HX with HG
      imodintro
      isplitl [HP] <;> iassumption)
    (hglob := glob m)
    (hA := fun _ _ => rfl) (hpf := fun _ k => k.elim0)
    (X := start m) (Y := left m) (Z := fun _ => iprop(emp))
    (hX := start_intro m ρ) (hin := phi0_intro m) (hout := phi1_exit m)
    (QY := fun c s => ends m c s ∧ ∀ sm : SemLoc sig, sm.isScoped .tc = false → s.sem ((c.tc : Thread nD τ), sm) = 0)
    (hY := left_read m)
    (hQ := fun _ h hs => ⟨fun c => (h c).2.2.1, sem_eq_zero hs fun c => (h c).2.2.2⟩)

end Cert.NormProof

end
-- ==== Proof.Frames.lean ====
/-
The frames: the kernel's two readings are one run read at its arguments and counters, the reference's is its run on the host.
-/
module

public import proofs.«01_k».proof.Defs
public import proofs.«01_k».proof.Proof.Gen.Kernel
public import proofs.«01_k».proof.Proof.Gen.ReferenceIdeal.Run
public import Idealize.ShloMosaic.Lib.Quiescent
public import proofs.«01_k».proof.Proof.Launch

@[expose] public section

noncomputable section

namespace Cert.NormProof

open Idealize.ShloMosaic Idealize.SL.Sem

theorem frame_kernel : Cert.quiescent_Kernel (hKernel := Cert.Kernel.Gen.facts) := fun m ρ _ =>
  (θ_run Cert.KernelIdeal.defs _ _).mono (fun _ h => ⟨fun c => ⟨(h.1 c).1, (h.1 c).2.1, (h.1 c).2.2.1⟩, h.2⟩) (run_main (F := Bits) m ρ)

theorem frame_ideal : Cert.quiescent_KernelIdeal (hKernelIdeal := Cert.KernelIdeal.Gen.facts) := fun m ρ _ =>
  (θ_run Cert.KernelIdeal.defs _ _).mono (fun _ h => ⟨fun c => ⟨(h.1 c).1, (h.1 c).2.1, (h.1 c).2.2.1⟩, h.2⟩) (run_main (F := Ideal) m ρ)

theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.NormProof

end
-- ==== Proof.Masks.lean ====
/-
The four constant matrices of zeros and ones that the kernel multiplies with, read over the extended reals at an index: the lane
masks pick row `r`'s lane `r mod 128`, the group selections pick row `r`'s group `r / 128`.
-/
module

public import proofs.«01_k».proof.Proof.Proto
public import Idealize.ShloMosaic.Lib.Pointwise

@[expose] public section

noncomputable section

namespace Cert.NormProof

open Cert.KernelIdeal Cert.KernelIdeal.Gen

open Idealize.ShloMosaic

set_option maxRecDepth 16384

/-- The kernel's word for `n` modulo the 128 lanes. -/
def laneWord (n : Nat) : BitVec 32 :=
  Scalar.select
    (IntOp.andi
      (IntOp.xori
        (IntOp.cmpi CmpIPredicate.slt
          (IntOp.remsi ArithUnit.vector (BitVec.ofNat 32 n)
            (Scalar.select (Scalar.cmpi CmpIPredicate.eq 128#32 0#32) 1#32 128#32)) 0#32)
        (Scalar.cmpi CmpIPredicate.slt (Scalar.select (Scalar.cmpi CmpIPredicate.eq 128#32 0#32) 1#32 128#32) 0#32))
      (IntOp.cmpi CmpIPredicate.ne
        (IntOp.remsi ArithUnit.vector (BitVec.ofNat 32 n)
          (Scalar.select (Scalar.cmpi CmpIPredicate.eq 128#32 0#32) 1#32 128#32)) 0#32))
    (IntOp.addi
      (IntOp.remsi ArithUnit.vector (BitVec.ofNat 32 n)
        (Scalar.select (Scalar.cmpi CmpIPredicate.eq 128#32 0#32) 1#32 128#32))
      (Scalar.select (Scalar.cmpi CmpIPredicate.eq 128#32 0#32) 1#32 128#32))
    (IntOp.remsi ArithUnit.vector (BitVec.ofNat 32 n)
      (Scalar.select (Scalar.cmpi CmpIPredicate.eq 128#32 0#32) 1#32 128#32))

/-- The kernel's word for `n` divided by 128, rounded down. -/
def groupWord (n : Nat) : BitVec 32 :=
  Scalar.select
    (IntOp.andi
      (IntOp.cmpi CmpIPredicate.ne
        (IntOp.subi (BitVec.setWidth 32 (IntOp.cmpi CmpIPredicate.sgt (BitVec.ofNat 32 n) 0#32))
          (BitVec.setWidth 32 (IntOp.cmpi CmpIPredicate.slt (BitVec.ofNat 32 n) 0#32)))
        (Scalar.subi (Scalar.extui (Scalar.cmpi CmpIPredicate.sgt 128#32 0#32))
          (Scalar.extui (Scalar.cmpi CmpIPredicate.slt 128#32 0#32))))
      (IntOp.cmpi CmpIPredicate.ne (IntOp.remsi ArithUnit.vector (BitVec.ofNat 32 n) 128#32) 0#32))
    (IntOp.subi (IntOp.divsi ArithUnit.vector (BitVec.ofNat 32 n) 128#32) 1#32)
    (IntOp.divsi ArithUnit.vector (BitVec.ofNat 32 n) 128#32)

theorem laneWord_eq : ∀ n : Fin 512, laneWord n.val = BitVec.ofNat 32 (n.val % 128) := by decide +kernel
theorem groupWord_eq : ∀ n : Fin 512, groupWord n.val = BitVec.ofNat 32 (n.val / 128) := by decide +kernel

/-- One bit of a comparison of two small words, widened and read as a real: one where they agree, else zero. -/
theorem bit_real (a b : Nat) (ha : a < 512) (hb : b < 512) :
    (FloatOps.sitofp (F := Ideal) FTy.f32
      (BitVec.setWidth 32 (IntOp.cmpi CmpIPredicate.eq (BitVec.ofNat 32 a) (BitVec.ofNat 32 b)))) = if a = b then 1 else 0 := by
  by_cases h : a = b
  · subst h
    rw [if_pos rfl, IntOp.cmpi_eq_self]
    show (((BitVec.setWidth 32 1#1).toInt : ℝ) : EReal) = 1
    rw [show (BitVec.setWidth 32 1#1).toInt = 1 from by decide]; norm_num
  · have hne : BitVec.ofNat 32 a ≠ BitVec.ofNat 32 b := fun e => h (by
      have := congrArg BitVec.toNat e
      simp only [BitVec.toNat_ofNat] at this; omega)
    rw [if_neg h, show IntOp.cmpi CmpIPredicate.eq (BitVec.ofNat 32 a) (BitVec.ofNat 32 b) = 0#1 from by
      simp only [IntOp.cmpi, beq_eq_false_iff_ne.mpr hne]; rfl]
    show (((BitVec.setWidth 32 0#1).toInt : ℝ) : EReal) = 0
    rw [show (BitVec.setWidth 32 0#1).toInt = 0 from by decide]; norm_num

theorem laneC_apply (r : Fin 256) (l : Fin 128) :
    (k0_pay1 (F := Ideal)) (ix2 r l) = if l.val = r.val % 128 then 1 else 0 := by
  pointwise [k0_pay1]
  show FloatOps.sitofp FTy.f32 (BitVec.setWidth 32 (IntOp.cmpi CmpIPredicate.eq (BitVec.ofNat 32 l.val) (laneWord r.val))) = _
  rw [laneWord_eq ⟨r.val, by omega⟩]
  exact bit_real _ _ (by omega) (by dsimp only; omega)

theorem laneH_apply (r : Fin 512) (l : Fin 128) :
    (k0_pay6 (F := Ideal)) (ix2 r l) = if l.val = r.val % 128 then 1 else 0 := by
  pointwise [k0_pay6]
  show FloatOps.sitofp FTy.f32 (BitVec.setWidth 32 (IntOp.cmpi CmpIPredicate.eq (BitVec.ofNat 32 l.val) (laneWord r.val))) = _
  rw [laneWord_eq r]
  exact bit_real _ _ (by omega) (by omega)

theorem selC_apply (r : Fin 256) (g : Fin 2) :
    (selC (F := Ideal)) (ix2 r g) = if g.val = r.val / 128 then 1 else 0 := by
  pointwise [selC, k0_pay5, k0_pay2, k0_pay3, k0_pay4]
  show FloatOps.sitofp FTy.f32 (BitVec.setWidth 32 (IntOp.cmpi CmpIPredicate.eq (BitVec.ofNat 32 g.val) (groupWord r.val))) = _
  rw [groupWord_eq ⟨r.val, by omega⟩]
  exact bit_real _ _ (by omega) (by dsimp only; omega)

theorem selH_apply (r : Fin 512) (g : Fin 4) :
    (selH (F := Ideal)) (ix2 r g) = if g.val = r.val / 128 then 1 else 0 := by
  pointwise [selH, k0_pay10, k0_pay7, k0_pay8, k0_pay9]
  show FloatOps.sitofp FTy.f32 (BitVec.setWidth 32 (IntOp.cmpi CmpIPredicate.eq (BitVec.ofNat 32 g.val) (groupWord r.val))) = _
  rw [groupWord_eq r]
  exact bit_real _ _ (by omega) (by omega)

end Cert.NormProof

end
-- ==== Proof.Chunk.lean ====
/-
What one chunk's packed statistics and one phase's finished rows are, element by element, over the extended reals.
-/
module

public import proofs.«01_k».proof.Proof.Masks

@[expose] public section

noncomputable section

namespace Cert.NormProof

open Cert.KernelIdeal Cert.KernelIdeal.Gen

open Idealize.ShloMosaic

set_option maxRecDepth 16384

/-- The statistic `s` of one row: the sum of its elements, or of their squares. -/
def rowStat (s : Fin 2) {n : Nat} (f : Fin n → EReal) : EReal := if s = 0 then ∑ k, f k else ∑ k, f k * f k

/-- A sum against a row of zeros with a single one is the term there. -/
theorem sum_pick {n : Nat} (a : Fin n) (q : Nat) (hq : q = a.val) (f : Fin n → EReal) :
    ∑ k : Fin n, (if k.val = q then (1 : EReal) else 0) * f k = f a := by
  subst hq
  rw [Finset.sum_eq_single a (fun k _ hk => by rw [if_neg (fun e => hk (Fin.ext e)), zero_mul])
    (fun h => absurd (Finset.mem_univ a) h), if_pos rfl, one_mul]

/-- Selecting a row group and a lane scatters the row values: at `(g, l)` stands row `128 g + l`. -/
theorem scatter_rows (y : Fin 256 → EReal) (g : Fin 2) (l : Fin 128) :
    ∑ r : Fin 256, selC (F := Ideal) (ix2 r g) * (y r * (k0_pay1 (F := Ideal)) (ix2 r l)) = y ⟨g.val * 128 + l.val, by omega⟩ := by
  rw [Finset.sum_eq_single (⟨g.val * 128 + l.val, by omega⟩ : Fin 256)]
  · rw [selC_apply, laneC_apply, if_pos (by dsimp only; omega), if_pos (by dsimp only; omega), mul_one, one_mul]
  · intro r _ hr
    rw [selC_apply, laneC_apply]
    by_cases h : g.val = r.val / 128
    · rw [if_neg (c := l.val = r.val % 128) (fun e => hr (Fin.ext (by dsimp only; omega))), mul_zero, mul_zero]
    · rw [if_neg h, zero_mul]
  · exact fun h => absurd (Finset.mem_univ _) h

/-- The same selection read back: row `r` of the half gets the entry of its group and lane. -/
theorem gather_row (T : Fin 4 → Fin 128 → EReal) (r : Fin 512) :
    ∑ l : Fin 128, (∑ g : Fin 4, selH (F := Ideal) (ix2 r g) * T g l) * (k0_pay6 (F := Ideal)) (ix2 r l)
      = T ⟨r.val / 128, by omega⟩ ⟨r.val % 128, by omega⟩ := by
  have inner : ∀ l, ∑ g : Fin 4, selH (F := Ideal) (ix2 r g) * T g l = T ⟨r.val / 128, by omega⟩ l := fun l => by
    simp only [selH_apply]
    exact sum_pick (⟨r.val / 128, by omega⟩ : Fin 4) _ rfl fun g => T g l
  simp only [inner, laneH_apply, mul_comm (T _ _)]
  exact sum_pick (⟨r.val % 128, by omega⟩ : Fin 128) _ rfl _

/-- A chunk's packed statistic at `(g, l)` is that of its row `128 g + l`. -/
theorem pack_apply (s : Fin 2) (x : Vec Ideal S256x1024 .f32) (g : Fin 2) (l : Fin 128) :
    pack (F := Ideal) s x (ix5 0 0 0 g l) = rowStat s fun k : Fin 1024 => x (ix2 ⟨g.val * 128 + l.val, by omega⟩ k) := by
  unfold pack rowStat
  split
  · pointwise [k0_pay11]
    exact scatter_rows (fun r => ∑ k : Fin 1024, x (ix2 r k)) g l
  · pointwise [k0_pay12]
    exact scatter_rows (fun r => ∑ k : Fin 1024, x (ix2 r k) * x (ix2 r k)) g l

variable (m : (ℓ : Loc nD τ sig) → Buf (Elt Ideal) ℓ)

/-- Row `R` of device `d`'s block of `x`. -/
def xRow (d : Dev nD) (R : Fin 2048) : Fin 1024 → EReal := fun k => xC (F := Ideal) m d (ix2 R k)

theorem commV_apply (c : Dev nD) (p k : Fin 4) (s : Fin 2) (g : Fin 4) (l : Fin 128) :
    commV (F := Ideal) m c p k s (ix5 0 0 0 g l)
      = rowStat s (xRow m (back c k) ⟨512 * p.val + 128 * g.val + l.val, by omega⟩) := by
  refine (pack_apply s _ ⟨g.val % 2, by omega⟩ l).trans (congrArg (rowStat s) (funext fun j => ?_))
  refine congrArg (xC (F := Ideal) m (back c k)) ?_
  refine (eq_ix2 _).trans (congrArg (fun a => ix2 a j) (Fin.ext ?_))
  show 256 * (2 * p.val + g.val / 2) + (g.val % 2 * 128 + l.val) = 512 * p.val + 128 * g.val + l.val
  omega

/-- The statistic `s` of row `R` over the four devices' blocks, as device `c` adds it up. -/
def total (c : Dev nD) (s : Fin 2) (R : Fin 2048) : EReal :=
  rowStat s (xRow m (back c 0) R) + rowStat s (xRow m (back c 1) R) + rowStat s (xRow m (back c 2) R) + rowStat s (xRow m (back c 3) R)

/-- One element of the result from the element of `x`, the row's two sums, and the column's scale and shift. -/
def normed (x S₁ S₂ g b : EReal) : EReal :=
  (x - S₁ * Ideal.ofBits .f32 0x39800000#32)
    * Ideal.rsqrt (S₂ * Ideal.ofBits .f32 0x39800000#32
        - S₁ * Ideal.ofBits .f32 0x39800000#32 * (S₁ * Ideal.ofBits .f32 0x39800000#32) + Ideal.ofBits .f32 0x3727C5AC#32)
    * g + b

theorem outBlk_apply (c : Dev nD) (p : Fin 4) (r : Fin 512) (j : Fin 1024) :
    outBlk (F := Ideal) m c p (ix2 r j)
      = normed (xRow m c ⟨512 * p.val + r.val, by omega⟩ j) (total m c 0 ⟨512 * p.val + r.val, by omega⟩)
          (total m c 1 ⟨512 * p.val + r.val, by omega⟩) (gC (F := Ideal) m c (ix2 0 j)) (bC (F := Ideal) m c (ix2 0 j)) := by
  have tot : ∀ s, ∑ l : Fin 128, (∑ g : Fin 4, selH (F := Ideal) (ix2 r g) *
      (commV (F := Ideal) m c p 0 s (ix5 0 0 0 g l) + commV (F := Ideal) m c p 1 s (ix5 0 0 0 g l)
        + commV (F := Ideal) m c p 2 s (ix5 0 0 0 g l) + commV (F := Ideal) m c p 3 s (ix5 0 0 0 g l)))
          * (k0_pay6 (F := Ideal)) (ix2 r l) = total m c s ⟨512 * p.val + r.val, by omega⟩ := fun s => by
    rw [gather_row (fun g l => commV (F := Ideal) m c p 0 s (ix5 0 0 0 g l) + commV (F := Ideal) m c p 1 s (ix5 0 0 0 g l)
        + commV (F := Ideal) m c p 2 s (ix5 0 0 0 g l) + commV (F := Ideal) m c p 3 s (ix5 0 0 0 g l)) r]
    have e : (⟨512 * p.val + 128 * (r.val / 128) + r.val % 128, by omega⟩ : Fin 2048) = ⟨512 * p.val + r.val, by omega⟩ :=
      Fin.ext (by dsimp only; omega)
    simp only [commV_apply, e]
    rfl
  unfold outBlk
  pointwise [k0_pay31, k0_pay32, k0_pay33, k0_pay34, k0_pay35]
  rw [tot 0, tot 1]
  rfl

/-- Device `c`'s result, element by element. -/
theorem outC_apply (c : Dev nD) (R : Fin 2048) (j : Fin 1024) :
    outC (F := Ideal) m c (ix2 R j)
      = normed (xRow m c R j) (total m c 0 R) (total m c 1 R) (gC (F := Ideal) m c (ix2 0 j)) (bC (F := Ideal) m c (ix2 0 j)) := by
  refine (outBlk_apply m c ⟨R.val / 512, by omega⟩ ⟨R.val % 512, by omega⟩ j).trans ?_
  have e : (⟨512 * (R.val / 512) + R.val % 512, by omega⟩ : Fin 2048) = R := Fin.ext (by dsimp only; omega)
  simp only [e]

theorem back_bijective (c : Dev nD) : Function.Bijective (back c) := by revert c; decide

/-- The order in which a device adds the four blocks' sums does not matter. -/
theorem total_eq (c : Dev nD) (s : Fin 2) (R : Fin 2048) : total m c s R = ∑ d : Fin 4, rowStat s (xRow m d R) :=
  (Fin.sum_univ_four fun k => rowStat s (xRow m (back c k) R)).symm.trans
    ((back_bijective c).sum_comp fun d => rowStat s (xRow m d R))

end Cert.NormProof

end
-- ==== Proof.RefVal.lean ====
/-
What the reference computes, element by element, over the extended reals.
-/
module

public import proofs.«01_k».proof.Proof.Gen.ReferenceIdeal.Run
public import Idealize.ShloMosaic.Lib.Pointwise

@[expose] public section

noncomputable section

namespace Cert.NormProof

open Idealize.ShloMosaic Idealize.SL.Sem Cert.ReferenceIdeal Cert.ReferenceIdeal.Gen Cert.ReferenceIdeal.Facts

set_option maxRecDepth 16384

/-- The word the reference divides by is the number of columns. -/
theorem word_count : Ideal.ofBits .f32 0x45800000#32 = ((4096 : ℝ) : EReal) := by
  simp [Ideal.ofBits, Ideal.ieee, -EReal.coe_mul]
  norm_num [-EReal.coe_mul]

/-- The column of row means. -/
def refMean (x : FVec Ideal S2048x4096 .f32) : FVec Ideal S2048x1 .f32 :=
  Host.divf (broadcastInDim S2048x1 ![0] bcast_S2048_S2048x1_0 (Host.reduceAdd x (constant S_ .f32 0x00000000#32) reducesTo_S2048x4096_S2048_d1 h_S_))
    (broadcastInDim S2048x1 ![] bcast_S_S2048x1 (constant S_ .f32 0x45800000#32))

/-- The array less its row means. -/
def refDiff (x : FVec Ideal S2048x4096 .f32) : FVec Ideal S2048x4096 .f32 :=
  subf x (broadcastInDim S2048x4096 ![0, 1] bcast_S2048x1_S2048x4096_0_1 (refMean x))

/-- The number of columns less no degree of freedom. -/
def refCount : FVec Ideal S_ .f32 := subf (constant S_ .f32 0x45800000#32) (sitofp .f32 (constantI S_ 32 0#32))

/-- The column of row variances. -/
def refVar (x : FVec Ideal S2048x4096 .f32) : FVec Ideal S2048x1 .f32 :=
  select (broadcastInDim S2048x1 ![] bcast_S_S2048x1 (cmpf .ogt refCount (constant S_ .f32 0x00000000#32)))
    (Host.divf (broadcastInDim S2048x1 ![0] bcast_S2048_S2048x1_0 (Host.reduceAdd (mulf (refDiff x) (refDiff x)) (constant S_ .f32 0x00000000#32) reducesTo_S2048x4096_S2048_d1 h_S_))
      (broadcastInDim S2048x1 ![] bcast_S_S2048x1 refCount))
    (broadcastInDim S2048x1 ![] bcast_S_S2048x1 (id (constant (F := Ideal) S_ .f32 0x7FC00000#32)))

/-- The reference's result as a function of its three arguments. -/
def refOut (x : FVec Ideal S2048x4096 .f32) (g b : FVec Ideal S1x4096 .f32) : FVec Ideal S2048x4096 .bf16 :=
  truncf .bf16
    (addf
      (Host.divf (mulf (broadcastInDim S2048x4096 ![0, 1] bcast_S1x4096_S2048x4096_0_1 g) (refDiff x))
        (broadcastInDim S2048x4096 ![0, 1] bcast_S2048x1_S2048x4096_0_1
          (Host.sqrt (addf (refVar x) (broadcastInDim S2048x1 ![] bcast_S_S2048x1 (constant S_ .f32 0x3727C5AC#32))))))
      (broadcastInDim S2048x4096 ![0, 1] bcast_S1x4096_S2048x4096_0_1 b)) bitsLt_bf16_f32

/-- The reference ends with `refOut` of its arguments and leaves them. -/
theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16)
          = refOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run (F := Ideal) m ρ

/-- The mean of a row as the reference divides it out. -/
def meanOf (f : Fin 4096 → EReal) : EReal := Ideal.div (∑ k, f k) (Ideal.ofBits .f32 0x45800000#32)

theorem refDiff_apply (x : FVec Ideal S2048x4096 .f32) (R : Fin 2048) (J : Fin 4096) :
    refDiff x (ix2 R J) = x (ix2 R J) - meanOf fun k => x (ix2 R k) := by
  pointwise [refDiff, refMean, meanOf]

theorem refVar_apply (x : FVec Ideal S2048x4096 .f32) (R : Fin 2048) :
    refVar x (ix2 R 0) = Ideal.div (∑ k, refDiff x (ix2 R k) * refDiff x (ix2 R k)) (Ideal.ofBits .f32 0x45800000#32) := by
  pointwise [refVar, refCount]
  have h0 : FloatOps.sitofp (F := Ideal) FTy.f32 0#32 = 0 := by
    show (((0#32 : BitVec 32).toInt : ℝ) : EReal) = 0
    rw [show (0#32 : BitVec 32).toInt = 0 from by decide]; norm_num
  rw [h0, sub_zero, if_pos (by rw [word_count]; exact EReal.coe_pos.mpr (by norm_num))]

theorem refOut_apply (x : FVec Ideal S2048x4096 .f32) (g b : FVec Ideal S1x4096 .f32) (R : Fin 2048) (J : Fin 4096) :
    refOut x g b (ix2 R J)
      = Ideal.div (g (ix2 0 J) * refDiff x (ix2 R J)) (Ideal.sqrt (refVar x (ix2 R 0) + Ideal.ofBits .f32 0x3727C5AC#32)) + b (ix2 0 J) := by
  pointwise [refOut]

end Cert.NormProof

end
-- ==== Proof.Algebra.lean ====
/-
The equation between the kernel's and the reference's formulas for one element, over the reals.
-/
module

public import proofs.«01_k».proof.Proof.Chunk
public import proofs.«01_k».proof.Proof.RefVal

@[expose] public section

noncomputable section

namespace Cert.NormProof

open Idealize.ShloMosaic

/-- The word the kernel multiplies with is one over the number of columns. -/
theorem word_inv : Ideal.ofBits .f32 0x39800000#32 = ((1 / 4096 : ℝ) : EReal) := by
  simp [Ideal.ofBits, Ideal.ieee, -EReal.coe_mul]
  norm_num [-EReal.coe_mul]

/-- The word added to the variance is a positive real. -/
theorem word_eps : ∃ e : ℝ, 0 < e ∧ Ideal.ofBits .f32 0x3727C5AC#32 = (e : EReal) := by
  refine ⟨10995116 * (2 ^ 40)⁻¹, by positivity, ?_⟩
  simp [Ideal.ofBits, Ideal.ieee, -EReal.coe_mul]

theorem word_top : Ideal.ofBits .f32 0x7F800000#32 = ⊤ := by
  simp [Ideal.ofBits, Ideal.ieee]

/-- The finite sum of reals read among the extended reals. -/
theorem coe_sum {n : Nat} (f : Fin n → ℝ) : ∑ k, (f k : EReal) = ((∑ k, f k : ℝ) : EReal) :=
  (map_sum (⟨⟨Real.toEReal, EReal.coe_zero⟩, EReal.coe_add⟩ : ℝ →+ EReal) f Finset.univ).symm

/-- The mean of squares less the square of the mean is the mean square deviation. -/
theorem variance_eq (f : Fin 4096 → ℝ) :
    (∑ k, f k * f k) * (1 / 4096) - (∑ k, f k) * (1 / 4096) * ((∑ k, f k) * (1 / 4096))
      = (∑ k, (f k - (∑ j, f j) / 4096) * (f k - (∑ j, f j) / 4096)) / 4096 := by
  generalize hμ : (∑ j, f j) / 4096 = μ
  have hS : ∑ k, f k = 4096 * μ := by rw [← hμ]; ring
  have : ∑ k, (f k - μ) * (f k - μ) = ∑ k, f k * f k - 2 * μ * ∑ k, f k + 4096 * (μ * μ) := by
    simp only [show ∀ k, (f k - μ) * (f k - μ) = f k * f k - 2 * μ * f k + μ * μ from fun k => by ring]
    rw [Finset.sum_add_distrib, Finset.sum_sub_distrib, ← Finset.mul_sum]
    simp
  rw [this, hS]; ring

/-- Division by a real other than zero is multiplication with its inverse. -/
theorem div_real (x : EReal) {r : ℝ} (h : r ≠ 0) : Ideal.div x (r : EReal) = x * ((r⁻¹ : ℝ) : EReal) := by
  rw [Ideal.div, if_neg (EReal.coe_ne_zero.mpr h), EReal.coe_inv]

/-- One element of the kernel's result is the reference's, whenever the row is real: scale and shift may be any extended reals. -/
theorem normed_eq (f : Fin 4096 → ℝ) (x : ℝ) (g b : EReal) :
    normed x (∑ k, (f k : EReal)) (∑ k, (f k : EReal) * (f k : EReal)) g b
      = Ideal.div (g * ((x : EReal) - meanOf fun k => (f k : EReal)))
          (Ideal.sqrt (Ideal.div (∑ k, ((f k : EReal) - meanOf fun j => (f j : EReal)) * ((f k : EReal) - meanOf fun j => (f j : EReal)))
              (Ideal.ofBits .f32 0x45800000#32) + Ideal.ofBits .f32 0x3727C5AC#32)) + b := by
  obtain ⟨e, he, hw⟩ := word_eps
  have hmean : (meanOf fun k => (f k : EReal)) = (((∑ k, f k) / 4096 : ℝ) : EReal) := by
    rw [meanOf, word_count, coe_sum, div_real _ (by norm_num), ← EReal.coe_mul, div_eq_mul_inv]
  have hv : 0 ≤ (∑ k, (f k - (∑ j, f j) / 4096) * (f k - (∑ j, f j) / 4096)) / 4096 :=
    div_nonneg (Finset.sum_nonneg fun k _ => mul_self_nonneg _) (by norm_num)
  rw [hmean, normed, word_inv, hw, word_count]
  simp only [← EReal.coe_mul, ← EReal.coe_sub, coe_sum]
  rw [variance_eq, div_real _ (by norm_num : (4096 : ℝ) ≠ 0), ← EReal.coe_mul, ← div_eq_mul_inv]
  generalize (∑ k, (f k - (∑ j, f j) / 4096) * (f k - (∑ j, f j) / 4096)) / 4096 = v at hv ⊢
  have hp : 0 < v + e := add_pos_of_nonneg_of_pos hv he
  rw [← EReal.coe_add, Ideal.rsqrt_coe, Ideal.sqrt_coe, if_neg hp.le.not_gt, if_neg hp.ne', if_neg hp.le.not_gt,
    div_real _ (Real.sqrt_pos.mpr hp).ne', mul_one_div, mul_comm g, mul_assoc, mul_assoc, mul_comm g]

/-- A row whose first element is `+∞` and whose others are zero. -/
def infRow : Fin 4096 → EReal := fun k => if k = 0 then ⊤ else 0

/-- On `infRow`, with scale one and shift zero, the kernel's formula gives `+∞` at the second element and the reference's gives zero: so
    the value claim needs the elements of `x` to be finite. -/
theorem infinite_differs :
    normed (infRow 1) (∑ k, infRow k) (∑ k, infRow k * infRow k) 1 0 = ⊤
      ∧ Ideal.div (1 * (infRow 1 - meanOf infRow))
          (Ideal.sqrt (Ideal.div (∑ k, (infRow k - meanOf infRow) * (infRow k - meanOf infRow)) (Ideal.ofBits .f32 0x45800000#32)
            + Ideal.ofBits .f32 0x3727C5AC#32)) + 0 = 0 := by
  obtain ⟨e, he, hw⟩ := word_eps
  have hsum : ∑ k, infRow k = ⊤ := by simp [infRow]
  have hsq : ∑ k, infRow k * infRow k = ⊤ := by
    rw [show (fun k => infRow k * infRow k) = infRow from funext fun k => by by_cases h : k = 0 <;> simp [infRow, h], hsum]
  have h1 : infRow 1 = 0 := rfl
  have hm : meanOf infRow = ⊤ := by
    rw [meanOf, hsum, word_count, div_real _ (by norm_num), EReal.top_mul_coe_of_pos (by norm_num)]
  have hd : ∀ k, (infRow k - meanOf infRow) * (infRow k - meanOf infRow) = ⊤ := fun k => by
    rw [hm, show infRow k - ⊤ = ⊥ from by by_cases h : k = 0 <;> simp [infRow, h]]; rfl
  constructor
  · rw [normed, hsum, hsq, h1, word_inv, hw, EReal.top_mul_coe_of_pos (by norm_num), EReal.top_mul_top]
    simp
  · simp only [hd]
    rw [hm, h1, word_count, hw, div_real _ (by norm_num), show ∑ _k : Fin 4096, (⊤ : EReal) = ⊤ from by
        rw [Finset.sum_const, Finset.card_univ, Fintype.card_fin, EReal.nsmul_eq_mul]
        exact EReal.coe_mul_top_of_pos (x := ((4096 : ℕ) : ℝ)) (by norm_num),
      EReal.top_mul_coe_of_pos (by norm_num)]
    simp [Ideal.div]

end Cert.NormProof

end
-- ==== Proof.Value.lean ====
/-
The value: when `x` is real, device `c`'s result is block `c` of the reference's.
-/
module

public import proofs.«01_k».proof.Defs
public import proofs.«01_k».proof.Proof.Algebra
public import proofs.«01_k».proof.Proof.Launch

@[expose] public section

noncomputable section

namespace Cert.NormProof

open Idealize.ShloMosaic Idealize.SL.Sem
open Cert.KernelIdeal

set_option maxRecDepth 16384

instance preFacts : Cert.Pre_x_finite_KernelIdeal.Facts := ⟨by decide⟩
instance preFactsRef : Cert.Pre_x_finite_ReferenceIdeal.Facts := ⟨by decide⟩

/-- The precondition says of every element of a block of `x` that it is a real. -/
theorem real_of_pre (x : FVec Ideal S2048x1024 .f32) (g b : FVec Ideal S1x1024 .f32)
    (h : Cert.Pre_x_finite_KernelIdeal.fn (F := Ideal) x g b = fun _ => 1#1) (R : Fin 2048) (j : Fin 1024) :
    ∃ r : ℝ, x (ix2 R j) = (r : EReal) := by
  have h := congrFun h (ix2 R j)
  pointwise [Cert.Pre_x_finite_KernelIdeal.fn] at h
  rw [word_top] at h
  generalize x (ix2 R j) = y at h
  induction y using EReal.rec with
  | bot =>
    change BitVec.ofBool (decide (max (⊥ : EReal) (-⊥) < ⊤)) = 1#1 at h
    simp at h
  | top =>
    change BitVec.ofBool (decide (max (⊤ : EReal) (-⊤) < ⊤)) = 1#1 at h
    simp at h
  | coe r => exact ⟨r, rfl⟩

/-- A row of the whole array from the device and the column of its block. -/
def wide (d : Fin 4) (k : Fin 1024) : Fin 4096 := ⟨d.val * 1024 + k.val, by omega⟩

theorem sum_blocks (f : Fin 4096 → EReal) : ∑ d : Fin 4, ∑ k : Fin 1024, f (wide d k) = ∑ K : Fin 4096, f K := by
  rw [← Fintype.sum_prod_type' (f := fun d k => f (wide d k))]
  exact Fintype.sum_equiv (finProdFinEquiv (m := 4) (n := 1024)) _ _ fun dk => congrArg f (Fin.ext (by
    show dk.1.val * 1024 + dk.2.val = dk.2.val + 1024 * dk.1.val
    omega))

/-- Where an element of device `c`'s block lies in an array of 4096 columns. -/
theorem block_at {r : Nat} (α : Type) (c : Fin 4) (v : (⟨2, ![r, 4096]⟩ : Shape).Idx → α) (h : Layout.Tiles ⟨2, ![r, 1024]⟩ ⟨2, ![r, 4096]⟩ 1 4)
    (R : Fin r) (j : Fin 1024) : Layout.block ⟨2, ![r, 1024]⟩ ⟨2, ![r, 4096]⟩ 1 4 c v h (ix2 R j) = v (ix2 R (wide c j)) := by
  refine congrArg v ((eq_ix2 _).trans ?_)
  rfl

/-- A statistic of the four blocks of a row adds up to that of the whole row. -/
theorem sum_rowStat (s : Fin 2) (f : Fin 4096 → EReal) :
    ∑ d : Fin 4, rowStat s (fun k : Fin 1024 => f (wide d k)) = rowStat s f := by
  unfold rowStat
  split
  · exact sum_blocks f
  · exact sum_blocks fun K => f K * f K

/-- Each device's result is its block of the reference's, if its blocks are those of the reference's arguments and `x` is real. -/
theorem out_eq (m : (ℓ : Loc nD τ sig) → Buf (Elt Ideal) ℓ) (X : FVec Ideal ⟨2, ![2048, 4096]⟩ .f32) (G B : FVec Ideal ⟨2, ![1, 4096]⟩ .f32)
    (hX : ∀ c : Dev nD, m (xL c) = Layout.block ⟨2, ![2048, 1024]⟩ ⟨2, ![2048, 4096]⟩ 1 4 c X)
    (hG : ∀ c : Dev nD, m (gL c) = Layout.block ⟨2, ![1, 1024]⟩ ⟨2, ![1, 4096]⟩ 1 4 c G)
    (hB : ∀ c : Dev nD, m (bL c) = Layout.block ⟨2, ![1, 1024]⟩ ⟨2, ![1, 4096]⟩ 1 4 c B)
    (hr : ∀ (c : Dev nD) (R : Fin 2048) (j : Fin 1024), ∃ r : ℝ, xRow m c R j = (r : EReal)) (c : Dev nD) :
    outC (F := Ideal) m c = Layout.block ⟨2, ![2048, 1024]⟩ ⟨2, ![2048, 4096]⟩ 1 4 c (refOut X G B) := by
  funext i
  obtain ⟨R, j, rfl⟩ : ∃ (R : Fin 2048) (j : Fin 1024), i = ix2 R j := ⟨i 0, i 1, eq_ix2 i⟩
  have hrow : ∀ (d : Dev nD) k, xRow m d R k = X (ix2 R (wide d k)) := fun d k =>
    (congrFun (hX d) (ix2 R k)).trans (block_at _ d X _ R k)
  have hreal : ∀ K : Fin 4096, ∃ r : ℝ, X (ix2 R K) = (r : EReal) := fun K => by
    obtain ⟨r, h⟩ := hr (⟨K.val / 1024, by omega⟩ : Fin 4) R ⟨K.val % 1024, by omega⟩
    refine ⟨r, (congrArg X (congrArg (ix2 R) (Fin.ext ?_))).trans ((hrow _ _).symm.trans h)⟩
    show K.val = K.val / 1024 * 1024 + K.val % 1024
    omega
  choose f hf using hreal
  have htot : ∀ s, total m c s R = rowStat s fun K => (f K : EReal) := fun s => by
    rw [total_eq]
    refine Eq.trans (Finset.sum_congr rfl fun d _ => congrArg (rowStat s) (funext fun k => ?_)) (sum_rowStat s fun K => (f K : EReal))
    exact (hrow d k).trans (hf _)
  refine Eq.trans ?_ (block_at _ c (refOut X G B) _ R j).symm
  rw [outC_apply, htot, htot, hrow, refOut_apply, refVar_apply]
  simp only [refDiff_apply, hf]
  rw [show gC (F := Ideal) m c (ix2 0 j) = G (ix2 0 (wide c j)) from (congrFun (hG c) (ix2 0 j)).trans (block_at _ c G _ 0 j),
    show bC (F := Ideal) m c (ix2 0 j) = B (ix2 0 (wide c j)) from (congrFun (hB c) (ix2 0 j)).trans (block_at _ c B _ 0 j)]
  exact normed_eq f (f (wide c j)) _ _

/-- The value claim. -/
theorem algebraic : Cert.algebraic_KernelIdeal_ReferenceIdeal_pre_x_finite_KernelIdeal
    (hKernelIdeal := Cert.KernelIdeal.Gen.facts) (hReferenceIdeal := Cert.ReferenceIdeal.Gen.facts) := fun m ρ m' ρ' hp hm => by
  refine ⟨refOut _ _ _, (θ_run Cert.KernelIdeal.defs _ _).mono (fun r h c => ⟨(h.1 c).2.2.2.trans ?_, (h.1 c).1, (h.1 c).2.1, (h.1 c).2.2.1⟩)
      (run_main (F := Ideal) m ρ),
    (θ_run Cert.ReferenceIdeal.defs _ _).mono (fun r h => h 0) (run_reference m' ρ')⟩
  exact out_eq m _ _ _ (fun c => (hm c).1) (fun c => (hm c).2.1) (fun c => (hm c).2.2)
    (fun d R j => real_of_pre _ _ _ (hp d) R j) c

end Cert.NormProof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  NormProof.preFacts, NormProof.preFactsRef, NormProof.frame_kernel, NormProof.frame_ideal,
  fun m ρ _ => NormProof.frame_ideal m ρ trivial, NormProof.frame_reference,
  fun m ρ _ => NormProof.frame_reference m ρ trivial, trivial, NormProof.algebraic⟩

end Cert.Proof

end
